-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v419) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x64 : Shape := ⟨2, ![1, 64]⟩
abbrev S1x8 : Shape := ⟨2, ![1, 8]⟩
abbrev S1x31x512 : Shape := ⟨3, ![1, 31, 512]⟩
abbrev S1x512 : Shape := ⟨2, ![1, 512]⟩
abbrev S1x1024x1024 : Shape := ⟨3, ![1, 1024, 1024]⟩
abbrev S32x8 : Shape := ⟨2, ![32, 8]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  main_v18

def fn {F : FTy → Type} [FloatOps F] (main_arg0 : FVec F S4x4096x1024 .f32) (main_arg1 : FVec F S1x1024 .f32) (main_arg2 : FVec F S1x1024x2816 .f32) (main_arg3 : FVec F S1x64 .f32) (main_arg4 : FVec F S1x64 .f32) (main_arg5 : FVec F S1x8 .f32) (main_arg6 : FVec F S1x31x512 .f32) (main_arg7 : FVec F S1x512 .f32) (main_arg8 : FVec F S1x512 .f32) (main_arg9 : FVec F S1x512 .f32) (main_arg10 : FVec F S1x1024x1024 .f32) (main_arg11 : FVec F S32x8 .f32) : IVec S_ 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg4
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x8 .f32 := Host.absf main_arg5
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S32x8 .f32 := Host.absf main_arg11
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_v13 main_v16
-- ==== Kernel.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x64 : Shape := ⟨2, ![1, 64]⟩
abbrev S1x8 : Shape := ⟨2, ![1, 8]⟩
abbrev S1x31x512 : Shape := ⟨3, ![1, 31, 512]⟩
abbrev S1x512 : Shape := ⟨2, ![1, 512]⟩
abbrev S1x1024x1024 : Shape := ⟨3, ![1, 1024, 1024]⟩
abbrev S32x8 : Shape := ⟨2, ![32, 8]⟩
abbrev S1024 : Shape := ⟨1, ![1024]⟩
abbrev S1024x2816 : Shape := ⟨2, ![1024, 2816]⟩
abbrev S64 : Shape := ⟨1, ![64]⟩
abbrev S8 : Shape := ⟨1, ![8]⟩
abbrev S31x512 : Shape := ⟨2, ![31, 512]⟩
abbrev S512 : Shape := ⟨1, ![512]⟩
abbrev S1024x1024 : Shape := ⟨2, ![1024, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S32x512 : Shape := ⟨2, ![32, 512]⟩
abbrev S128x1 : Shape := ⟨2, ![128, 1]⟩
abbrev S128x256 : Shape := ⟨2, ![128, 256]⟩
abbrev S128x256x1 : Shape := ⟨3, ![128, 256, 1]⟩
abbrev S128x256x8 : Shape := ⟨3, ![128, 256, 8]⟩
abbrev S1x256x1 : Shape := ⟨3, ![1, 256, 1]⟩
abbrev S1x128x256x8 : Shape := ⟨4, ![1, 128, 256, 8]⟩
abbrev S2x128x256x8 : Shape := ⟨4, ![2, 128, 256, 8]⟩
abbrev S2x8x128x256 : Shape := ⟨4, ![2, 8, 128, 256]⟩
abbrev S2x2x2x2x128x256 : Shape := ⟨6, ![2, 2, 2, 2, 128, 256]⟩
abbrev S2x4x256x256 : Shape := ⟨4, ![2, 4, 256, 256]⟩
abbrev S1x512x1024 : Shape := ⟨3, ![1, 512, 1024]⟩
abbrev S512x1024 : Shape := ⟨2, ![512, 1024]⟩
abbrev S512x512 : Shape := ⟨2, ![512, 512]⟩
abbrev S4x640x128 : Shape := ⟨3, ![4, 640, 128]⟩
abbrev S4x640x256 : Shape := ⟨3, ![4, 640, 256]⟩
abbrev S544x512 : Shape := ⟨2, ![544, 512]⟩
abbrev S4x128x128 : Shape := ⟨3, ![4, 128, 128]⟩
abbrev S4x128x256 : Shape := ⟨3, ![4, 128, 256]⟩
abbrev S1x64x1024 : Shape := ⟨3, ![1, 64, 1024]⟩
abbrev S64x1024 : Shape := ⟨2, ![64, 1024]⟩
abbrev S64x1 : Shape := ⟨2, ![64, 1]⟩
abbrev S1024x256 : Shape := ⟨2, ![1024, 256]⟩
abbrev S512x256 : Shape := ⟨2, ![512, 256]⟩
abbrev S512x128 : Shape := ⟨2, ![512, 128]⟩
abbrev S128x128 : Shape := ⟨2, ![128, 128]⟩
abbrev S1x512x128 : Shape := ⟨3, ![1, 512, 128]⟩
abbrev S64x128 : Shape := ⟨2, ![64, 128]⟩
abbrev S64x512 : Shape := ⟨2, ![64, 512]⟩
abbrev S256x128 : Shape := ⟨2, ![256, 128]⟩
abbrev S1x256x128 : Shape := ⟨3, ![1, 256, 128]⟩
abbrev S1x1x256x256 : Shape := ⟨4, ![1, 1, 256, 256]⟩
abbrev S1 : Shape := ⟨1, ![1]⟩
abbrev S1x256x256 : Shape := ⟨3, ![1, 256, 256]⟩
abbrev S1x512x256 : Shape := ⟨3, ![1, 512, 256]⟩

abbrev nBuf : Space → Nat
  | .hbm => 150
  | .vmem => 24
  | .smem => 1
  | _ => 0

abbrev hbmTy0_0 (i : Nat) : BufTy := match i % 128 with
  | 0 => ⟨S4x4096x1024, .f32⟩
  | 1 => ⟨S1x1024, .f32⟩
  | 2 => ⟨S1x1024x2816, .f32⟩
  | 3 => ⟨S1x64, .f32⟩
  | 4 => ⟨S1x64, .f32⟩
  | 5 => ⟨S1x8, .f32⟩
  | 6 => ⟨S1x31x512, .f32⟩
  | 7 => ⟨S1x512, .f32⟩
  | 8 => ⟨S1x512, .f32⟩
  | 9 => ⟨S1x512, .f32⟩
  | 10 => ⟨S1x1024x1024, .f32⟩
  | 11 => ⟨S32x8, .f32⟩
  | 12 => ⟨S1024, .f32⟩
  | 13 => ⟨S1024x2816, .f32⟩
  | 14 => ⟨S64, .f32⟩
  | 15 => ⟨S64, .f32⟩
  | 16 => ⟨S8, .f32⟩
  | 17 => ⟨S31x512, .f32⟩
  | 18 => ⟨S512, .f32⟩
  | 19 => ⟨S512, .f32⟩
  | 20 => ⟨S512, .f32⟩
  | 21 => ⟨S1024x1024, .f32⟩
  | 22 => ⟨S256, .i32⟩
  | 23 => ⟨S_, .i32⟩
  | 24 => ⟨S_, .i32⟩
  | 25 => ⟨S256, .i32⟩
  | 26 => ⟨S256, .i32⟩
  | 27 => ⟨S256, .i32⟩
  | 28 => ⟨S_, .i32⟩
  | 29 => ⟨S256, .i32⟩
  | 30 => ⟨S256, .i1⟩
  | 31 => ⟨S256, .i32⟩
  | 32 => ⟨S256, .i32⟩
  | 33 => ⟨S_, .i32⟩
  | 34 => ⟨S256, .i32⟩
  | 35 => ⟨S256, .i1⟩
  | 36 => ⟨S256, .i1⟩
  | 37 => ⟨S_, .i32⟩
  | 38 => ⟨S256, .i32⟩
  | 39 => ⟨S256, .i32⟩
  | 40 => ⟨S256, .i32⟩
  | 41 => ⟨S256x1, .i32⟩
  | 42 => ⟨S1x256, .i32⟩
  | 43 => ⟨S256x256, .i32⟩
  | 44 => ⟨S256x256, .i32⟩
  | 45 => ⟨S256x256, .i1⟩
  | 46 => ⟨S_, .f32⟩
  | 47 => ⟨S_, .f32⟩
  | 48 => ⟨S256x256, .f32⟩
  | 49 => ⟨S256x256, .f32⟩
  | 50 => ⟨S256x256, .f32⟩
  | 51 => ⟨S256x256, .f32⟩
  | 52 => ⟨S256x256, .bf16⟩
  | 53 => ⟨S1x64, .f32⟩
  | 54 => ⟨S8x64, .f32⟩
  | 55 => ⟨S512, .f32⟩
  | 56 => ⟨S_, .f32⟩
  | 57 => ⟨S512, .f32⟩
  | 58 => ⟨S512, .f32⟩
  | 59 => ⟨S1x512, .f32⟩
  | 60 => ⟨S1x64, .f32⟩
  | 61 => ⟨S2x64, .f32⟩
  | 62 => ⟨S128, .f32⟩
  | 63 => ⟨S1x128, .f32⟩
  | 64 => ⟨S_, .f32⟩
  | 65 => ⟨S1x512, .f32⟩
  | 66 => ⟨S32x512, .f32⟩
  | 67 => ⟨S1x1024, .f32⟩
  | 68 => ⟨S1024x2816, .bf16⟩
  | 69 => ⟨S1x512, .f32⟩
  | 70 => ⟨S1x512, .f32⟩
  | 71 => ⟨S1x512, .f32⟩
  | 72 => ⟨S1024x1024, .bf16⟩
  | 73 => ⟨S128, .i32⟩
  | 74 => ⟨S128x1, .i32⟩
  | 75 => ⟨S256, .i32⟩
  | 76 => ⟨S1x256, .i32⟩
  | 77 => ⟨S_, .i32⟩
  | 78 => ⟨S128x1, .i32⟩
  | 79 => ⟨S128x1, .i32⟩
  | 80 => ⟨S128x256, .i32⟩
  | 81 => ⟨S128x256, .i32⟩
  | 82 => ⟨S128x256, .i32⟩
  | 83 => ⟨S_, .i32⟩
  | 84 => ⟨S128x256, .i32⟩
  | 85 => ⟨S128x256, .i32⟩
  | 86 => ⟨S_, .i32⟩
  | 87 => ⟨S128x256, .i32⟩
  | 88 => ⟨S128x256, .i32⟩
  | 89 => ⟨S128x256, .f32⟩
  | 90 => ⟨S_, .f32⟩
  | 91 => ⟨S128x256, .f32⟩
  | 92 => ⟨S128x256, .f32⟩
  | 93 => ⟨S128x256, .f32⟩
  | 94 => ⟨S_, .f32⟩
  | 95 => ⟨S128x256, .f32⟩
  | 96 => ⟨S128x256, .f32⟩
  | 97 => ⟨S_, .f32⟩
  | 98 => ⟨S128x256, .f32⟩
  | 99 => ⟨S128x256, .f32⟩
  | 100 => ⟨S128x256, .i32⟩
  | 101 => ⟨S_, .i32⟩
  | 102 => ⟨S128x256, .i32⟩
  | 103 => ⟨S128x256, .i32⟩
  | 104 => ⟨S_, .i32⟩
  | 105 => ⟨S128x256, .i32⟩
  | 106 => ⟨S128x256, .i32⟩
  | 107 => ⟨S_, .i32⟩
  | 108 => ⟨S128x256, .i32⟩
  | 109 => ⟨S128x256, .i1⟩
  | 110 => ⟨S128x256, .i32⟩
  | 111 => ⟨S_, .i32⟩
  | 112 => ⟨S128x256, .i32⟩
  | 113 => ⟨S128x256, .i1⟩
  | 114 => ⟨S_, .i32⟩
  | 115 => ⟨S128x256, .i32⟩
  | 116 => ⟨S128x256, .i1⟩
  | 117 => ⟨S128x256, .i1⟩
  | 118 => ⟨S_, .i32⟩
  | 119 => ⟨S1x256, .i32⟩
  | 120 => ⟨S1x256, .i1⟩
  | 121 => ⟨S_, .i32⟩
  | 122 => ⟨S128x256, .i32⟩
  | 123 => ⟨S128x256, .i1⟩
  | 124 => ⟨S_, .i32⟩
  | 125 => ⟨S128x256, .i32⟩
  | 126 => ⟨S128x256, .i32⟩
  | 127 => ⟨S128x256, .i32⟩
  | _ => ⟨S4x4096x1024, .f32⟩

abbrev hbmTy0_1 (i : Nat) : BufTy := match i % 128 with
  | 0 => ⟨S128x256x1, .i32⟩
  | 1 => ⟨S128x256x8, .f32⟩
  | 2 => ⟨S128x256x1, .i1⟩
  | 3 => ⟨S_, .f32⟩
  | 4 => ⟨S_, .f32⟩
  | 5 => ⟨S128x256x8, .i1⟩
  | 6 => ⟨S128x256x8, .f32⟩
  | 7 => ⟨S128x256x8, .f32⟩
  | 8 => ⟨S1x256x1, .i1⟩
  | 9 => ⟨S_, .f32⟩
  | 10 => ⟨S_, .f32⟩
  | 11 => ⟨S128x256x8, .i1⟩
  | 12 => ⟨S128x256x8, .f32⟩
  | 13 => ⟨S128x256x8, .f32⟩
  | 14 => ⟨S1x128x256x8, .f32⟩
  | 15 => ⟨S1x128x256x8, .f32⟩
  | 16 => ⟨S2x128x256x8, .f32⟩
  | 17 => ⟨S2x8x128x256, .f32⟩
  | 18 => ⟨S2x2x2x2x128x256, .f32⟩
  | 19 => ⟨S2x2x2x2x128x256, .f32⟩
  | 20 => ⟨S2x4x256x256, .f32⟩
  | 21 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1x512, .f32⟩
  | .local _ .vmem, ⟨5, _⟩ => ⟨S1x128, .f32⟩
  | .local _ .vmem, ⟨6, _⟩ => ⟨S256x256, .bf16⟩
  | .local _ .vmem, ⟨7, _⟩ => ⟨S32x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x1024, .bf16⟩
  | .local _ .vmem, ⟨12, _⟩ => ⟨S2x4x256x256, .f32⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | .local _ .vmem, ⟨16, _⟩ => ⟨S512x512, .bf16⟩
  | .local _ .vmem, ⟨17, _⟩ => ⟨S4x640x128, .bf16⟩
  | .local _ .vmem, ⟨18, _⟩ => ⟨S4x640x256, .bf16⟩
  | .local _ .vmem, ⟨19, _⟩ => ⟨S544x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x1024, .bf16⟩
  | .local _ .smem, ⟨0, _⟩ => ⟨S8, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_cst_0 : Ref sig .tc := ⟨.hbm, 47, rfl⟩
abbrev main_call1_v0 : Ref sig .tc := ⟨.hbm, 48, rfl⟩
abbrev main_call1_v1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_1 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_2 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_3 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_4 : Ref sig .tc := ⟨.hbm, 83, rfl⟩
abbrev main_v47 : Ref sig .tc := ⟨.hbm, 84, rfl⟩
abbrev main_v48 : Ref sig .tc := ⟨.hbm, 85, rfl⟩
abbrev main_c_5 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_6 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_7 : Ref sig .tc := ⟨.hbm, 94, rfl⟩
abbrev main_v55 : Ref sig .tc := ⟨.hbm, 95, rfl⟩
abbrev main_v56 : Ref sig .tc := ⟨.hbm, 96, rfl⟩
abbrev main_cst_8 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_9 : Ref sig .tc := ⟨.hbm, 101, rfl⟩
abbrev main_v60 : Ref sig .tc := ⟨.hbm, 102, rfl⟩
abbrev main_v61 : Ref sig .tc := ⟨.hbm, 103, rfl⟩
abbrev main_c_10 : Ref sig .tc := ⟨.hbm, 104, rfl⟩
abbrev main_v62 : Ref sig .tc := ⟨.hbm, 105, rfl⟩
abbrev main_v63 : Ref sig .tc := ⟨.hbm, 106, rfl⟩
abbrev main_c_11 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_12 : Ref sig .tc := ⟨.hbm, 111, rfl⟩
abbrev main_v67 : Ref sig .tc := ⟨.hbm, 112, rfl⟩
abbrev main_v68 : Ref sig .tc := ⟨.hbm, 113, rfl⟩
abbrev main_c_13 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_14 : Ref sig .tc := ⟨.hbm, 118, rfl⟩
abbrev main_v72 : Ref sig .tc := ⟨.hbm, 119, rfl⟩
abbrev main_v73 : Ref sig .tc := ⟨.hbm, 120, rfl⟩
abbrev main_c_15 : Ref sig .tc := ⟨.hbm, 121, rfl⟩
abbrev main_v74 : Ref sig .tc := ⟨.hbm, 122, rfl⟩
abbrev main_v75 : Ref sig .tc := ⟨.hbm, 123, rfl⟩
abbrev main_c_16 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_17 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v82 : Ref sig .tc := ⟨.hbm, 135, rfl⟩
abbrev main_v83 : Ref sig .tc := ⟨.hbm, 136, rfl⟩
abbrev main_cst_18 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let arg1 : BitVec 32 := BitVec.ofNat 32 (i 1).val
  let c0_i32_4193 : BitVec 32 := 0#32
  let v6830 : BitVec 1 := Scalar.cmpi .eq arg1 c0_i32_4193
  let c1_i32 : BitVec 32 := 1#32
  let c0_i32_4194 : BitVec 32 := 0#32
  let v6831 : BitVec 32 := Scalar.select v6830 c1_i32 c0_i32_4194
  let v6838 : Index := Scalar.indexCast v6831
  let c0_4203 : Index := 0#32
  let c0_4204 : Index := 0#32
  let c0_4205 : Index := 0#32
  ![v6838.toNat, 0, 0, 0]
def k0_off2 (i : grid0.Coords) : Fin 4 → Nat :=
  let arg1 : BitVec 32 := BitVec.ofNat 32 (i 1).val
  let c0_i32_4193 : BitVec 32 := 0#32
  let v6830 : BitVec 1 := Scalar.cmpi .eq arg1 c0_i32_4193
  let c1_i32 : BitVec 32 := 1#32
  let c0_i32_4194 : BitVec 32 := 0#32
  let v6831 : BitVec 32 := Scalar.select v6830 c1_i32 c0_i32_4194
  let v6874 : Index := Scalar.indexCast v6831
  let c1_4218 : Index := 1#32
  let c0_4219 : Index := 0#32
  let c0_4220 : Index := 0#32
  ![v6874.toNat, 1, 0, 0]
def k0_off3 (i : grid0.Coords) : Fin 4 → Nat :=
  let arg1 : BitVec 32 := BitVec.ofNat 32 (i 1).val
  let c0_i32_4193 : BitVec 32 := 0#32
  let v6830 : BitVec 1 := Scalar.cmpi .eq arg1 c0_i32_4193
  let c1_i32 : BitVec 32 := 1#32
  let c0_i32_4194 : BitVec 32 := 0#32
  let v6831 : BitVec 32 := Scalar.select v6830 c1_i32 c0_i32_4194
  let v6946 : Index := Scalar.indexCast v6831
  let c2_4245 : Index := 2#32
  let c0_4246 : Index := 0#32
  let c0_4247 : Index := 0#32
  ![v6946.toNat, 2, 0, 0]
def k0_off4 (i : grid0.Coords) : Fin 4 → Nat :=
  let arg1 : BitVec 32 := BitVec.ofNat 32 (i 1).val
  let c0_i32_4193 : BitVec 32 := 0#32
  let v6830 : BitVec 1 := Scalar.cmpi .eq arg1 c0_i32_4193
  let c1_i32 : BitVec 32 := 1#32
  let c0_i32_4194 : BitVec 32 := 0#32
  let v6831 : BitVec 32 := Scalar.select v6830 c1_i32 c0_i32_4194
  let v6982 : Index := Scalar.indexCast v6831
  let c3_4260 : Index := 3#32
  let c0_4261 : Index := 0#32
  let c0_4262 : Index := 0#32
  ![v6982.toNat, 3, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x4x256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x64 : Shape := ⟨2, ![1, 64]⟩
abbrev S1x8 : Shape := ⟨2, ![1, 8]⟩
abbrev S1x31x512 : Shape := ⟨3, ![1, 31, 512]⟩
abbrev S1x512 : Shape := ⟨2, ![1, 512]⟩
abbrev S1x1024x1024 : Shape := ⟨3, ![1, 1024, 1024]⟩
abbrev S32x8 : Shape := ⟨2, ![32, 8]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S4x4096x2816 : Shape := ⟨3, ![4, 4096, 2816]⟩
abbrev S4x4096x512 : Shape := ⟨3, ![4, 4096, 512]⟩
abbrev S4x4096x128 : Shape := ⟨3, ![4, 4096, 128]⟩
abbrev S4x4096x2x4x64 : Shape := ⟨5, ![4, 4096, 2, 4, 64]⟩
abbrev S64 : Shape := ⟨1, ![64]⟩
abbrev S4x4096x2x4 : Shape := ⟨4, ![4, 4096, 2, 4]⟩
abbrev S4x4096x2x4x1 : Shape := ⟨5, ![4, 4096, 2, 4, 1]⟩
abbrev S1x1x1x1x64 : Shape := ⟨5, ![1, 1, 1, 1, 64]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S1x1x1x64 : Shape := ⟨4, ![1, 1, 1, 64]⟩
abbrev S8 : Shape := ⟨1, ![8]⟩
abbrev S4x32x128x2x4x64 : Shape := ⟨6, ![4, 32, 128, 2, 4, 64]⟩
abbrev S4x4224x2x64 : Shape := ⟨4, ![4, 4224, 2, 64]⟩
abbrev S4x33x128x2x64 : Shape := ⟨5, ![4, 33, 128, 2, 64]⟩
abbrev S4x32x128x2x64 : Shape := ⟨5, ![4, 32, 128, 2, 64]⟩
abbrev S4x32x256x2x64 : Shape := ⟨5, ![4, 32, 256, 2, 64]⟩
abbrev S4x32x2x256x128x4 : Shape := ⟨6, ![4, 32, 2, 256, 128, 4]⟩
abbrev S4x32x2x4x128x256 : Shape := ⟨6, ![4, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S32 : Shape := ⟨1, ![32]⟩
abbrev S32x1 : Shape := ⟨2, ![32, 1]⟩
abbrev S32x256 : Shape := ⟨2, ![32, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x4x128x256 : Shape := ⟨6, ![1, 1, 2, 4, 128, 256]⟩
abbrev S1x32x2x4x128x256 : Shape := ⟨6, ![1, 32, 2, 4, 128, 256]⟩
abbrev S1x1x2x4x1x1 : Shape := ⟨6, ![1, 1, 2, 4, 1, 1]⟩
abbrev S4x32x2x4x128 : Shape := ⟨5, ![4, 32, 2, 4, 128]⟩
abbrev S4x32x2x4x128x1 : Shape := ⟨6, ![4, 32, 2, 4, 128, 1]⟩
abbrev S1x32x1x1x1x256 : Shape := ⟨6, ![1, 32, 1, 1, 1, 256]⟩
abbrev S4x32x2x64x4x128 : Shape := ⟨6, ![4, 32, 2, 64, 4, 128]⟩
abbrev S31x512 : Shape := ⟨2, ![31, 512]⟩
abbrev S512 : Shape := ⟨1, ![512]⟩
abbrev S4x4126x512 : Shape := ⟨3, ![4, 4126, 512]⟩
abbrev S1x1x512 : Shape := ⟨3, ![1, 1, 512]⟩
abbrev S1024x1024 : Shape := ⟨2, ![1024, 1024]⟩

abbrev nBuf : Space → Nat
  | .hbm => 506
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x2816, .f32⟩
  | 3 => ⟨S1x64, .f32⟩
  | 4 => ⟨S1x64, .f32⟩
  | 5 => ⟨S1x8, .f32⟩
  | 6 => ⟨S1x31x512, .f32⟩
  | 7 => ⟨S1x512, .f32⟩
  | 8 => ⟨S1x512, .f32⟩
  | 9 => ⟨S1x512, .f32⟩
  | 10 => ⟨S1x1024x1024, .f32⟩
  | 11 => ⟨S32x8, .f32⟩
  | 12 => ⟨S1024, .f32⟩
  | 13 => ⟨S4x4096x1024, .f32⟩
  | 14 => ⟨S_, .f32⟩
  | 15 => ⟨S4x4096, .f32⟩
  | 16 => ⟨S4x4096x1, .f32⟩
  | 17 => ⟨S_, .f32⟩
  | 18 => ⟨S4x4096x1, .f32⟩
  | 19 => ⟨S4x4096x1, .f32⟩
  | 20 => ⟨S_, .f32⟩
  | 21 => ⟨S4x4096x1, .f32⟩
  | 22 => ⟨S4x4096x1, .f32⟩
  | 23 => ⟨S4x4096x1, .f32⟩
  | 24 => ⟨S4x4096x1024, .f32⟩
  | 25 => ⟨S4x4096x1024, .f32⟩
  | 26 => ⟨S1x1x1024, .f32⟩
  | 27 => ⟨S4x4096x1024, .f32⟩
  | 28 => ⟨S4x4096x1024, .f32⟩
  | 29 => ⟨S1024x2816, .f32⟩
  | 30 => ⟨S4x4096x2816, .f32⟩
  | 31 => ⟨S4x4096x512, .f32⟩
  | 32 => ⟨S4x4096x128, .f32⟩
  | 33 => ⟨S4x4096x128, .f32⟩
  | 34 => ⟨S4x4096x512, .f32⟩
  | 35 => ⟨S4x4096x1024, .f32⟩
  | 36 => ⟨S4x4096x512, .f32⟩
  | 37 => ⟨S4x4096x2x4x64, .f32⟩
  | 38 => ⟨S64, .f32⟩
  | 39 => ⟨S4x4096x2x4x64, .f32⟩
  | 40 => ⟨S_, .f32⟩
  | 41 => ⟨S4x4096x2x4, .f32⟩
  | 42 => ⟨S4x4096x2x4x1, .f32⟩
  | 43 => ⟨S_, .f32⟩
  | 44 => ⟨S4x4096x2x4x1, .f32⟩
  | 45 => ⟨S4x4096x2x4x1, .f32⟩
  | 46 => ⟨S_, .f32⟩
  | 47 => ⟨S4x4096x2x4x1, .f32⟩
  | 48 => ⟨S4x4096x2x4x1, .f32⟩
  | 49 => ⟨S4x4096x2x4x1, .f32⟩
  | 50 => ⟨S4x4096x2x4x64, .f32⟩
  | 51 => ⟨S4x4096x2x4x64, .f32⟩
  | 52 => ⟨S1x1x1x1x64, .f32⟩
  | 53 => ⟨S4x4096x2x4x64, .f32⟩
  | 54 => ⟨S4x4096x2x4x64, .f32⟩
  | 55 => ⟨S4x4096x2x64, .f32⟩
  | 56 => ⟨S64, .f32⟩
  | 57 => ⟨S4x4096x2x64, .f32⟩
  | 58 => ⟨S_, .f32⟩
  | 59 => ⟨S4x4096x2, .f32⟩
  | 60 => ⟨S4x4096x2x1, .f32⟩
  | 61 => ⟨S_, .f32⟩
  | 62 => ⟨S4x4096x2x1, .f32⟩
  | 63 => ⟨S4x4096x2x1, .f32⟩
  | 64 => ⟨S_, .f32⟩
  | 65 => ⟨S4x4096x2x1, .f32⟩
  | 66 => ⟨S4x4096x2x1, .f32⟩
  | 67 => ⟨S4x4096x2x1, .f32⟩
  | 68 => ⟨S4x4096x2x64, .f32⟩
  | 69 => ⟨S4x4096x2x64, .f32⟩
  | 70 => ⟨S1x1x1x64, .f32⟩
  | 71 => ⟨S4x4096x2x64, .f32⟩
  | 72 => ⟨S4x4096x2x64, .f32⟩
  | 73 => ⟨S4x4096x2x64, .f32⟩
  | 74 => ⟨S8, .f32⟩
  | 75 => ⟨S4x32x128x2x4x64, .f32⟩
  | 76 => ⟨S_, .i32⟩
  | 77 => ⟨S_, .f32⟩
  | 78 => ⟨S4x4224x2x64, .f32⟩
  | 79 => ⟨S4x33x128x2x64, .f32⟩
  | 80 => ⟨S_, .i32⟩
  | 81 => ⟨S_, .f32⟩
  | 82 => ⟨S4x4224x2x64, .f32⟩
  | 83 => ⟨S4x33x128x2x64, .f32⟩
  | 84 => ⟨S4x32x128x2x64, .f32⟩
  | 85 => ⟨S4x32x128x2x64, .f32⟩
  | 86 => ⟨S4x32x256x2x64, .f32⟩
  | 87 => ⟨S4x32x128x2x64, .f32⟩
  | 88 => ⟨S4x32x128x2x64, .f32⟩
  | 89 => ⟨S4x32x256x2x64, .f32⟩
  | 90 => ⟨S4x32x2x256x128x4, .f32⟩
  | 91 => ⟨S4x32x2x4x128x256, .f32⟩
  | 92 => ⟨S_, .f32⟩
  | 93 => ⟨S4x32x2x4x128x256, .f32⟩
  | 94 => ⟨S4x32x2x4x128x256, .f32⟩
  | 95 => ⟨S128, .i32⟩
  | 96 => ⟨S128x1, .i32⟩
  | 97 => ⟨S256, .i32⟩
  | 98 => ⟨S1x256, .i32⟩
  | 99 => ⟨S_, .i32⟩
  | 100 => ⟨S128x1, .i32⟩
  | 101 => ⟨S128x1, .i32⟩
  | 102 => ⟨S128x256, .i32⟩
  | 103 => ⟨S128x256, .i32⟩
  | 104 => ⟨S128x256, .i32⟩
  | 105 => ⟨S_, .i32⟩
  | 106 => ⟨S128x256, .i32⟩
  | 107 => ⟨S128x256, .i1⟩
  | 108 => ⟨S_, .i32⟩
  | 109 => ⟨S128x256, .i32⟩
  | 110 => ⟨S128x256, .i1⟩
  | 111 => ⟨S128x256, .i1⟩
  | 112 => ⟨S_, .i32⟩
  | 113 => ⟨S128x256, .i32⟩
  | 114 => ⟨S128x256, .i32⟩
  | 115 => ⟨S_, .i32⟩
  | 116 => ⟨S128x256, .i32⟩
  | 117 => ⟨S128x256, .i32⟩
  | 118 => ⟨S128x256, .f32⟩
  | 119 => ⟨S_, .f32⟩
  | 120 => ⟨S128x256, .f32⟩
  | 121 => ⟨S128x256, .f32⟩
  | 122 => ⟨S128x256, .f32⟩
  | 123 => ⟨S_, .f32⟩
  | 124 => ⟨S128x256, .f32⟩
  | 125 => ⟨S128x256, .f32⟩
  | 126 => ⟨S_, .f32⟩
  | 127 => ⟨S128x256, .f32⟩
  | _ => ⟨S4x4096x1024, .f32⟩

abbrev hbmTy0_1 (i : Nat) : BufTy := match i % 128 with
  | 0 => ⟨S128x256, .f32⟩
  | 1 => ⟨S128x256, .i32⟩
  | 2 => ⟨S_, .i32⟩
  | 3 => ⟨S128x256, .i32⟩
  | 4 => ⟨S128x256, .i32⟩
  | 5 => ⟨S_, .i32⟩
  | 6 => ⟨S128x256, .i32⟩
  | 7 => ⟨S128x256, .i32⟩
  | 8 => ⟨S_, .i32⟩
  | 9 => ⟨S128x256, .i32⟩
  | 10 => ⟨S128x256, .i1⟩
  | 11 => ⟨S128x256, .i32⟩
  | 12 => ⟨S_, .i32⟩
  | 13 => ⟨S128x256, .i32⟩
  | 14 => ⟨S128x256, .i1⟩
  | 15 => ⟨S_, .i32⟩
  | 16 => ⟨S128x256, .i32⟩
  | 17 => ⟨S128x256, .i32⟩
  | 18 => ⟨S128x256, .i32⟩
  | 19 => ⟨S128x256x1, .i32⟩
  | 20 => ⟨S128x256x8, .f32⟩
  | 21 => ⟨S8x128x256, .f32⟩
  | 22 => ⟨S2x4x128x256, .f32⟩
  | 23 => ⟨S32, .i32⟩
  | 24 => ⟨S32x1, .i32⟩
  | 25 => ⟨S_, .i32⟩
  | 26 => ⟨S32x1, .i32⟩
  | 27 => ⟨S32x1, .i1⟩
  | 28 => ⟨S_, .i32⟩
  | 29 => ⟨S1x256, .i32⟩
  | 30 => ⟨S1x256, .i1⟩
  | 31 => ⟨S32x256, .i1⟩
  | 32 => ⟨S32x256, .i1⟩
  | 33 => ⟨S32x256, .i1⟩
  | 34 => ⟨S32x1x256, .i1⟩
  | 35 => ⟨S1x128x256, .i1⟩
  | 36 => ⟨S32x128x256, .i1⟩
  | 37 => ⟨S32x128x256, .i1⟩
  | 38 => ⟨S32x128x256, .i1⟩
  | 39 => ⟨S1x32x1x1x128x256, .i1⟩
  | 40 => ⟨S1x1x2x4x128x256, .f32⟩
  | 41 => ⟨S_, .f32⟩
  | 42 => ⟨S_, .f32⟩
  | 43 => ⟨S1x32x2x4x128x256, .i1⟩
  | 44 => ⟨S1x32x2x4x128x256, .f32⟩
  | 45 => ⟨S1x32x2x4x128x256, .f32⟩
  | 46 => ⟨S1x32x2x4x128x256, .f32⟩
  | 47 => ⟨S4x32x2x4x128x256, .f32⟩
  | 48 => ⟨S4x32x2x4x128x256, .f32⟩
  | 49 => ⟨S1x1x2x4x1x1, .f32⟩
  | 50 => ⟨S_, .f32⟩
  | 51 => ⟨S4x32x2x4x128, .f32⟩
  | 52 => ⟨S4x32x2x4x128x1, .f32⟩
  | 53 => ⟨S4x32x2x4x128x1, .f32⟩
  | 54 => ⟨S4x32x2x4x128x1, .f32⟩
  | 55 => ⟨S1x32x1x1x1x256, .i1⟩
  | 56 => ⟨S4x32x2x4x128x256, .f32⟩
  | 57 => ⟨S4x32x2x4x128x256, .f32⟩
  | 58 => ⟨S4x32x2x4x128x256, .f32⟩
  | 59 => ⟨S_, .f32⟩
  | 60 => ⟨S_, .f32⟩
  | 61 => ⟨S4x32x2x4x128x256, .i1⟩
  | 62 => ⟨S4x32x2x4x128x256, .f32⟩
  | 63 => ⟨S4x32x2x4x128x256, .f32⟩
  | 64 => ⟨S_, .f32⟩
  | 65 => ⟨S4x32x2x4x128, .f32⟩
  | 66 => ⟨S4x32x2x4x128x1, .f32⟩
  | 67 => ⟨S4x32x2x4x128x1, .f32⟩
  | 68 => ⟨S4x32x2x4x128x1, .f32⟩
  | 69 => ⟨S4x32x2x4x128x1, .f32⟩
  | 70 => ⟨S4x32x2x4x128x1, .f32⟩
  | 71 => ⟨S4x32x2x4x128x256, .f32⟩
  | 72 => ⟨S4x32x2x4x128x256, .f32⟩
  | 73 => ⟨S4x32x2x64x4x128, .f32⟩
  | 74 => ⟨S4x32x128x2x4x64, .f32⟩
  | 75 => ⟨S4x4096x512, .f32⟩
  | 76 => ⟨S4x4096x512, .f32⟩
  | 77 => ⟨S4x4096x512, .f32⟩
  | 78 => ⟨S_, .f32⟩
  | 79 => ⟨S4x4096x512, .f32⟩
  | 80 => ⟨S4x4096x512, .f32⟩
  | 81 => ⟨S_, .f32⟩
  | 82 => ⟨S4x4096x512, .f32⟩
  | 83 => ⟨S4x4096x512, .f32⟩
  | 84 => ⟨S4x4096x512, .f32⟩
  | 85 => ⟨S4x4096x512, .f32⟩
  | 86 => ⟨S31x512, .f32⟩
  | 87 => ⟨S512, .f32⟩
  | 88 => ⟨S512, .f32⟩
  | 89 => ⟨S512, .f32⟩
  | 90 => ⟨S4x4096x512, .f32⟩
  | 91 => ⟨S4x4096x512, .f32⟩
  | 92 => ⟨S4x4096x512, .f32⟩
  | 93 => ⟨S4x4096x512, .f32⟩
  | 94 => ⟨S_, .f32⟩
  | 95 => ⟨S4x4096x512, .f32⟩
  | 96 => ⟨S4x4096x512, .f32⟩
  | 97 => ⟨S_, .f32⟩
  | 98 => ⟨S4x4096x512, .f32⟩
  | 99 => ⟨S4x4096x512, .f32⟩
  | 100 => ⟨S4x4096x512, .f32⟩
  | 101 => ⟨S_, .i32⟩
  | 102 => ⟨S_, .f32⟩
  | 103 => ⟨S4x4126x512, .f32⟩
  | 104 => ⟨S_, .f32⟩
  | 105 => ⟨S4x4096x512, .f32⟩
  | 106 => ⟨S1x512, .f32⟩
  | 107 => ⟨S512, .f32⟩
  | 108 => ⟨S4x4096x512, .f32⟩
  | 109 => ⟨S1x1x512, .f32⟩
  | 110 => ⟨S4x4096x512, .f32⟩
  | 111 => ⟨S4x4096x512, .f32⟩
  | 112 => ⟨S4x4096x512, .f32⟩
  | 113 => ⟨S1x512, .f32⟩
  | 114 => ⟨S512, .f32⟩
  | 115 => ⟨S4x4096x512, .f32⟩
  | 116 => ⟨S1x1x512, .f32⟩
  | 117 => ⟨S4x4096x512, .f32⟩
  | 118 => ⟨S4x4096x512, .f32⟩
  | 119 => ⟨S4x4096x512, .f32⟩
  | 120 => ⟨S1x512, .f32⟩
  | 121 => ⟨S512, .f32⟩
  | 122 => ⟨S4x4096x512, .f32⟩
  | 123 => ⟨S1x1x512, .f32⟩
  | 124 => ⟨S4x4096x512, .f32⟩
  | 125 => ⟨S4x4096x512, .f32⟩
  | 126 => ⟨S4x4096x512, .f32⟩
  | 127 => ⟨S1x512, .f32⟩
  | _ => ⟨S4x4096x1024, .f32⟩

abbrev hbmTy0_2 (i : Nat) : BufTy := match i % 128 with
  | 0 => ⟨S512, .f32⟩
  | 1 => ⟨S4x4096x512, .f32⟩
  | 2 => ⟨S1x1x512, .f32⟩
  | 3 => ⟨S4x4096x512, .f32⟩
  | 4 => ⟨S4x4096x512, .f32⟩
  | 5 => ⟨S4x4096x512, .f32⟩
  | 6 => ⟨S1x512, .f32⟩
  | 7 => ⟨S512, .f32⟩
  | 8 => ⟨S4x4096x512, .f32⟩
  | 9 => ⟨S1x1x512, .f32⟩
  | 10 => ⟨S4x4096x512, .f32⟩
  | 11 => ⟨S4x4096x512, .f32⟩
  | 12 => ⟨S4x4096x512, .f32⟩
  | 13 => ⟨S1x512, .f32⟩
  | 14 => ⟨S512, .f32⟩
  | 15 => ⟨S4x4096x512, .f32⟩
  | 16 => ⟨S1x1x512, .f32⟩
  | 17 => ⟨S4x4096x512, .f32⟩
  | 18 => ⟨S4x4096x512, .f32⟩
  | 19 => ⟨S4x4096x512, .f32⟩
  | 20 => ⟨S1x512, .f32⟩
  | 21 => ⟨S512, .f32⟩
  | 22 => ⟨S4x4096x512, .f32⟩
  | 23 => ⟨S1x1x512, .f32⟩
  | 24 => ⟨S4x4096x512, .f32⟩
  | 25 => ⟨S4x4096x512, .f32⟩
  | 26 => ⟨S4x4096x512, .f32⟩
  | 27 => ⟨S1x512, .f32⟩
  | 28 => ⟨S512, .f32⟩
  | 29 => ⟨S4x4096x512, .f32⟩
  | 30 => ⟨S1x1x512, .f32⟩
  | 31 => ⟨S4x4096x512, .f32⟩
  | 32 => ⟨S4x4096x512, .f32⟩
  | 33 => ⟨S4x4096x512, .f32⟩
  | 34 => ⟨S1x512, .f32⟩
  | 35 => ⟨S512, .f32⟩
  | 36 => ⟨S4x4096x512, .f32⟩
  | 37 => ⟨S1x1x512, .f32⟩
  | 38 => ⟨S4x4096x512, .f32⟩
  | 39 => ⟨S4x4096x512, .f32⟩
  | 40 => ⟨S4x4096x512, .f32⟩
  | 41 => ⟨S1x512, .f32⟩
  | 42 => ⟨S512, .f32⟩
  | 43 => ⟨S4x4096x512, .f32⟩
  | 44 => ⟨S1x1x512, .f32⟩
  | 45 => ⟨S4x4096x512, .f32⟩
  | 46 => ⟨S4x4096x512, .f32⟩
  | 47 => ⟨S4x4096x512, .f32⟩
  | 48 => ⟨S1x512, .f32⟩
  | 49 => ⟨S512, .f32⟩
  | 50 => ⟨S4x4096x512, .f32⟩
  | 51 => ⟨S1x1x512, .f32⟩
  | 52 => ⟨S4x4096x512, .f32⟩
  | 53 => ⟨S4x4096x512, .f32⟩
  | 54 => ⟨S4x4096x512, .f32⟩
  | 55 => ⟨S1x512, .f32⟩
  | 56 => ⟨S512, .f32⟩
  | 57 => ⟨S4x4096x512, .f32⟩
  | 58 => ⟨S1x1x512, .f32⟩
  | 59 => ⟨S4x4096x512, .f32⟩
  | 60 => ⟨S4x4096x512, .f32⟩
  | 61 => ⟨S4x4096x512, .f32⟩
  | 62 => ⟨S1x512, .f32⟩
  | 63 => ⟨S512, .f32⟩
  | 64 => ⟨S4x4096x512, .f32⟩
  | 65 => ⟨S1x1x512, .f32⟩
  | 66 => ⟨S4x4096x512, .f32⟩
  | 67 => ⟨S4x4096x512, .f32⟩
  | 68 => ⟨S4x4096x512, .f32⟩
  | 69 => ⟨S1x512, .f32⟩
  | 70 => ⟨S512, .f32⟩
  | 71 => ⟨S4x4096x512, .f32⟩
  | 72 => ⟨S1x1x512, .f32⟩
  | 73 => ⟨S4x4096x512, .f32⟩
  | 74 => ⟨S4x4096x512, .f32⟩
  | 75 => ⟨S4x4096x512, .f32⟩
  | 76 => ⟨S1x512, .f32⟩
  | 77 => ⟨S512, .f32⟩
  | 78 => ⟨S4x4096x512, .f32⟩
  | 79 => ⟨S1x1x512, .f32⟩
  | 80 => ⟨S4x4096x512, .f32⟩
  | 81 => ⟨S4x4096x512, .f32⟩
  | 82 => ⟨S4x4096x512, .f32⟩
  | 83 => ⟨S1x512, .f32⟩
  | 84 => ⟨S512, .f32⟩
  | 85 => ⟨S4x4096x512, .f32⟩
  | 86 => ⟨S1x1x512, .f32⟩
  | 87 => ⟨S4x4096x512, .f32⟩
  | 88 => ⟨S4x4096x512, .f32⟩
  | 89 => ⟨S4x4096x512, .f32⟩
  | 90 => ⟨S1x512, .f32⟩
  | 91 => ⟨S512, .f32⟩
  | 92 => ⟨S4x4096x512, .f32⟩
  | 93 => ⟨S1x1x512, .f32⟩
  | 94 => ⟨S4x4096x512, .f32⟩
  | 95 => ⟨S4x4096x512, .f32⟩
  | 96 => ⟨S4x4096x512, .f32⟩
  | 97 => ⟨S1x512, .f32⟩
  | 98 => ⟨S512, .f32⟩
  | 99 => ⟨S4x4096x512, .f32⟩
  | 100 => ⟨S1x1x512, .f32⟩
  | 101 => ⟨S4x4096x512, .f32⟩
  | 102 => ⟨S4x4096x512, .f32⟩
  | 103 => ⟨S4x4096x512, .f32⟩
  | 104 => ⟨S1x512, .f32⟩
  | 105 => ⟨S512, .f32⟩
  | 106 => ⟨S4x4096x512, .f32⟩
  | 107 => ⟨S1x1x512, .f32⟩
  | 108 => ⟨S4x4096x512, .f32⟩
  | 109 => ⟨S4x4096x512, .f32⟩
  | 110 => ⟨S4x4096x512, .f32⟩
  | 111 => ⟨S1x512, .f32⟩
  | 112 => ⟨S512, .f32⟩
  | 113 => ⟨S4x4096x512, .f32⟩
  | 114 => ⟨S1x1x512, .f32⟩
  | 115 => ⟨S4x4096x512, .f32⟩
  | 116 => ⟨S4x4096x512, .f32⟩
  | 117 => ⟨S4x4096x512, .f32⟩
  | 118 => ⟨S1x512, .f32⟩
  | 119 => ⟨S512, .f32⟩
  | 120 => ⟨S4x4096x512, .f32⟩
  | 121 => ⟨S1x1x512, .f32⟩
  | 122 => ⟨S4x4096x512, .f32⟩
  | 123 => ⟨S4x4096x512, .f32⟩
  | 124 => ⟨S4x4096x512, .f32⟩
  | 125 => ⟨S1x512, .f32⟩
  | 126 => ⟨S512, .f32⟩
  | 127 => ⟨S4x4096x512, .f32⟩
  | _ => ⟨S4x4096x1024, .f32⟩

abbrev hbmTy0_3 (i : Nat) : BufTy := match i % 128 with
  | 0 => ⟨S1x1x512, .f32⟩
  | 1 => ⟨S4x4096x512, .f32⟩
  | 2 => ⟨S4x4096x512, .f32⟩
  | 3 => ⟨S4x4096x512, .f32⟩
  | 4 => ⟨S1x512, .f32⟩
  | 5 => ⟨S512, .f32⟩
  | 6 => ⟨S4x4096x512, .f32⟩
  | 7 => ⟨S1x1x512, .f32⟩
  | 8 => ⟨S4x4096x512, .f32⟩
  | 9 => ⟨S4x4096x512, .f32⟩
  | 10 => ⟨S4x4096x512, .f32⟩
  | 11 => ⟨S1x512, .f32⟩
  | 12 => ⟨S512, .f32⟩
  | 13 => ⟨S4x4096x512, .f32⟩
  | 14 => ⟨S1x1x512, .f32⟩
  | 15 => ⟨S4x4096x512, .f32⟩
  | 16 => ⟨S4x4096x512, .f32⟩
  | 17 => ⟨S4x4096x512, .f32⟩
  | 18 => ⟨S1x512, .f32⟩
  | 19 => ⟨S512, .f32⟩
  | 20 => ⟨S4x4096x512, .f32⟩
  | 21 => ⟨S1x1x512, .f32⟩
  | 22 => ⟨S4x4096x512, .f32⟩
  | 23 => ⟨S4x4096x512, .f32⟩
  | 24 => ⟨S4x4096x512, .f32⟩
  | 25 => ⟨S1x512, .f32⟩
  | 26 => ⟨S512, .f32⟩
  | 27 => ⟨S4x4096x512, .f32⟩
  | 28 => ⟨S1x1x512, .f32⟩
  | 29 => ⟨S4x4096x512, .f32⟩
  | 30 => ⟨S4x4096x512, .f32⟩
  | 31 => ⟨S4x4096x512, .f32⟩
  | 32 => ⟨S1x512, .f32⟩
  | 33 => ⟨S512, .f32⟩
  | 34 => ⟨S4x4096x512, .f32⟩
  | 35 => ⟨S1x1x512, .f32⟩
  | 36 => ⟨S4x4096x512, .f32⟩
  | 37 => ⟨S4x4096x512, .f32⟩
  | 38 => ⟨S4x4096x512, .f32⟩
  | 39 => ⟨S1x512, .f32⟩
  | 40 => ⟨S512, .f32⟩
  | 41 => ⟨S4x4096x512, .f32⟩
  | 42 => ⟨S1x1x512, .f32⟩
  | 43 => ⟨S4x4096x512, .f32⟩
  | 44 => ⟨S4x4096x512, .f32⟩
  | 45 => ⟨S4x4096x512, .f32⟩
  | 46 => ⟨S1x512, .f32⟩
  | 47 => ⟨S512, .f32⟩
  | 48 => ⟨S4x4096x512, .f32⟩
  | 49 => ⟨S1x1x512, .f32⟩
  | 50 => ⟨S4x4096x512, .f32⟩
  | 51 => ⟨S4x4096x512, .f32⟩
  | 52 => ⟨S4x4096x512, .f32⟩
  | 53 => ⟨S1x512, .f32⟩
  | 54 => ⟨S512, .f32⟩
  | 55 => ⟨S4x4096x512, .f32⟩
  | 56 => ⟨S1x1x512, .f32⟩
  | 57 => ⟨S4x4096x512, .f32⟩
  | 58 => ⟨S4x4096x512, .f32⟩
  | 59 => ⟨S4x4096x512, .f32⟩
  | 60 => ⟨S1x512, .f32⟩
  | 61 => ⟨S512, .f32⟩
  | 62 => ⟨S4x4096x512, .f32⟩
  | 63 => ⟨S1x1x512, .f32⟩
  | 64 => ⟨S4x4096x512, .f32⟩
  | 65 => ⟨S4x4096x512, .f32⟩
  | 66 => ⟨S4x4096x512, .f32⟩
  | 67 => ⟨S1x1x512, .f32⟩
  | 68 => ⟨S4x4096x512, .f32⟩
  | 69 => ⟨S4x4096x512, .f32⟩
  | 70 => ⟨S_, .f32⟩
  | 71 => ⟨S4x4096, .f32⟩
  | 72 => ⟨S4x4096x1, .f32⟩
  | 73 => ⟨S_, .f32⟩
  | 74 => ⟨S4x4096x1, .f32⟩
  | 75 => ⟨S4x4096x1, .f32⟩
  | 76 => ⟨S4x4096x512, .f32⟩
  | 77 => ⟨S4x4096x512, .f32⟩
  | 78 => ⟨S4x4096x512, .f32⟩
  | 79 => ⟨S_, .f32⟩
  | 80 => ⟨S4x4096, .f32⟩
  | 81 => ⟨S4x4096x1, .f32⟩
  | 82 => ⟨S_, .f32⟩
  | 83 => ⟨S4x4096x1, .f32⟩
  | 84 => ⟨S4x4096x1, .f32⟩
  | 85 => ⟨S4x4096x512, .f32⟩
  | 86 => ⟨S4x4096x512, .f32⟩
  | 87 => ⟨S_, .f32⟩
  | 88 => ⟨S4x4096x1, .f32⟩
  | 89 => ⟨S4x4096x1, .f32⟩
  | 90 => ⟨S4x4096x1, .f32⟩
  | 91 => ⟨S4x4096x512, .f32⟩
  | 92 => ⟨S4x4096x512, .f32⟩
  | 93 => ⟨S1x1x512, .f32⟩
  | 94 => ⟨S4x4096x512, .f32⟩
  | 95 => ⟨S4x4096x512, .f32⟩
  | 96 => ⟨S1x1x512, .f32⟩
  | 97 => ⟨S4x4096x512, .f32⟩
  | 98 => ⟨S4x4096x512, .f32⟩
  | 99 => ⟨S4x4096x512, .f32⟩
  | 100 => ⟨S4x4096x512, .f32⟩
  | 101 => ⟨S_, .f32⟩
  | 102 => ⟨S4x4096x512, .f32⟩
  | 103 => ⟨S4x4096x512, .f32⟩
  | 104 => ⟨S_, .f32⟩
  | 105 => ⟨S4x4096x512, .f32⟩
  | 106 => ⟨S4x4096x512, .f32⟩
  | 107 => ⟨S4x4096x512, .f32⟩
  | 108 => ⟨S4x4096x512, .f32⟩
  | 109 => ⟨S4x4096x512, .f32⟩
  | 110 => ⟨S_, .f32⟩
  | 111 => ⟨S4x4096x512, .f32⟩
  | 112 => ⟨S4x4096x512, .f32⟩
  | 113 => ⟨S_, .f32⟩
  | 114 => ⟨S4x4096x512, .f32⟩
  | 115 => ⟨S4x4096x512, .f32⟩
  | 116 => ⟨S4x4096x512, .f32⟩
  | 117 => ⟨S4x4096x512, .f32⟩
  | 118 => ⟨S4x4096x1024, .f32⟩
  | 119 => ⟨S1024x1024, .f32⟩
  | 120 => ⟨S4x4096x1024, .f32⟩
  | 121 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_call0_v0 : Ref sig .tc := ⟨.hbm, 77, rfl⟩
abbrev main_v55 : Ref sig .tc := ⟨.hbm, 78, rfl⟩
abbrev main_v56 : Ref sig .tc := ⟨.hbm, 79, rfl⟩
abbrev main_c_8 : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_10 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_11 : Ref sig .tc := ⟨.hbm, 105, rfl⟩
abbrev main_v78 : Ref sig .tc := ⟨.hbm, 106, rfl⟩
abbrev main_v79 : Ref sig .tc := ⟨.hbm, 107, rfl⟩
abbrev main_c_12 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_13 : Ref sig .tc := ⟨.hbm, 112, rfl⟩
abbrev main_v83 : Ref sig .tc := ⟨.hbm, 113, rfl⟩
abbrev main_v84 : Ref sig .tc := ⟨.hbm, 114, rfl⟩
abbrev main_c_14 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_15 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_16 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_18 : Ref sig .tc := ⟨.hbm, 130, rfl⟩
abbrev main_v96 : Ref sig .tc := ⟨.hbm, 131, rfl⟩
abbrev main_v97 : Ref sig .tc := ⟨.hbm, 132, rfl⟩
abbrev main_c_19 : Ref sig .tc := ⟨.hbm, 133, rfl⟩
abbrev main_v98 : Ref sig .tc := ⟨.hbm, 134, rfl⟩
abbrev main_v99 : Ref sig .tc := ⟨.hbm, 135, rfl⟩
abbrev main_c_20 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_21 : Ref sig .tc := ⟨.hbm, 140, rfl⟩
abbrev main_v103 : Ref sig .tc := ⟨.hbm, 141, rfl⟩
abbrev main_v104 : Ref sig .tc := ⟨.hbm, 142, rfl⟩
abbrev main_c_22 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_23 : Ref sig .tc := ⟨.hbm, 153, rfl⟩
abbrev main_v114 : Ref sig .tc := ⟨.hbm, 154, rfl⟩
abbrev main_v115 : Ref sig .tc := ⟨.hbm, 155, rfl⟩
abbrev main_c_24 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_25 : Ref sig .tc := ⟨.hbm, 169, rfl⟩
abbrev main_call3_v0 : Ref sig .tc := ⟨.hbm, 170, rfl⟩
abbrev main_call3_v1 : Ref sig .tc := ⟨.hbm, 171, rfl⟩
abbrev main_call3_v2 : Ref sig .tc := ⟨.hbm, 172, rfl⟩
abbrev main_call3_v3 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_26 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_27 : Ref sig .tc := ⟨.hbm, 187, rfl⟩
abbrev main_call4_v0 : Ref sig .tc := ⟨.hbm, 188, rfl⟩
abbrev main_call4_v1 : Ref sig .tc := ⟨.hbm, 189, rfl⟩
abbrev main_call4_v2 : Ref sig .tc := ⟨.hbm, 190, rfl⟩
abbrev main_v140 : Ref sig .tc := ⟨.hbm, 191, rfl⟩
abbrev main_cst_28 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_call5_v0 : Ref sig .tc := ⟨.hbm, 204, rfl⟩
abbrev main_call5_v1 : Ref sig .tc := ⟨.hbm, 205, rfl⟩
abbrev main_call5_cst : Ref sig .tc := ⟨.hbm, 206, rfl⟩
abbrev main_call5_v2 : Ref sig .tc := ⟨.hbm, 207, rfl⟩
abbrev main_call5_v3 : Ref sig .tc := ⟨.hbm, 208, rfl⟩
abbrev main_call5_cst_0 : Ref sig .tc := ⟨.hbm, 209, rfl⟩
abbrev main_call5_v4 : Ref sig .tc := ⟨.hbm, 210, rfl⟩
abbrev main_call5_v5 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_29 : Ref sig .tc := ⟨.hbm, 222, rfl⟩
abbrev main_v162 : Ref sig .tc := ⟨.hbm, 223, rfl⟩
abbrev main_v163 : Ref sig .tc := ⟨.hbm, 224, rfl⟩
abbrev main_cst_30 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_c_31 : Ref sig .tc := ⟨.hbm, 229, rfl⟩
abbrev main_call6_v0 : Ref sig .tc := ⟨.hbm, 230, rfl⟩
abbrev main_v167 : Ref sig .tc := ⟨.hbm, 231, rfl⟩
abbrev main_cst_32 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_v342 : Ref sig .tc := ⟨.hbm, 407, rfl⟩
abbrev main_v343 : Ref sig .tc := ⟨.hbm, 408, rfl⟩
abbrev main_v344 : Ref sig .tc := ⟨.hbm, 409, rfl⟩
abbrev main_v345 : Ref sig .tc := ⟨.hbm, 410, rfl⟩
abbrev main_v346 : Ref sig .tc := ⟨.hbm, 411, rfl⟩
abbrev main_v347 : Ref sig .tc := ⟨.hbm, 412, rfl⟩
abbrev main_v348 : Ref sig .tc := ⟨.hbm, 413, rfl⟩
abbrev main_v349 : Ref sig .tc := ⟨.hbm, 414, rfl⟩
abbrev main_v350 : Ref sig .tc := ⟨.hbm, 415, rfl⟩
abbrev main_v351 : Ref sig .tc := ⟨.hbm, 416, rfl⟩
abbrev main_v352 : Ref sig .tc := ⟨.hbm, 417, rfl⟩
abbrev main_v353 : Ref sig .tc := ⟨.hbm, 418, rfl⟩
abbrev main_v354 : Ref sig .tc := ⟨.hbm, 419, rfl⟩
abbrev main_v355 : Ref sig .tc := ⟨.hbm, 420, rfl⟩
abbrev main_v356 : Ref sig .tc := ⟨.hbm, 421, rfl⟩
abbrev main_v357 : Ref sig .tc := ⟨.hbm, 422, rfl⟩
abbrev main_v358 : Ref sig .tc := ⟨.hbm, 423, rfl⟩
abbrev main_v359 : Ref sig .tc := ⟨.hbm, 424, rfl⟩
abbrev main_v360 : Ref sig .tc := ⟨.hbm, 425, rfl⟩
abbrev main_v361 : Ref sig .tc := ⟨.hbm, 426, rfl⟩
abbrev main_v362 : Ref sig .tc := ⟨.hbm, 427, rfl⟩
abbrev main_v363 : Ref sig .tc := ⟨.hbm, 428, rfl⟩
abbrev main_v364 : Ref sig .tc := ⟨.hbm, 429, rfl⟩
abbrev main_v365 : Ref sig .tc := ⟨.hbm, 430, rfl⟩
abbrev main_v366 : Ref sig .tc := ⟨.hbm, 431, rfl⟩
abbrev main_v367 : Ref sig .tc := ⟨.hbm, 432, rfl⟩
abbrev main_v368 : Ref sig .tc := ⟨.hbm, 433, rfl⟩
abbrev main_v369 : Ref sig .tc := ⟨.hbm, 434, rfl⟩
abbrev main_v370 : Ref sig .tc := ⟨.hbm, 435, rfl⟩
abbrev main_v371 : Ref sig .tc := ⟨.hbm, 436, rfl⟩
abbrev main_v372 : Ref sig .tc := ⟨.hbm, 437, rfl⟩
abbrev main_v373 : Ref sig .tc := ⟨.hbm, 438, rfl⟩
abbrev main_v374 : Ref sig .tc := ⟨.hbm, 439, rfl⟩
abbrev main_v375 : Ref sig .tc := ⟨.hbm, 440, rfl⟩
abbrev main_v376 : Ref sig .tc := ⟨.hbm, 441, rfl⟩
abbrev main_v377 : Ref sig .tc := ⟨.hbm, 442, rfl⟩
abbrev main_v378 : Ref sig .tc := ⟨.hbm, 443, rfl⟩
abbrev main_v379 : Ref sig .tc := ⟨.hbm, 444, rfl⟩
abbrev main_v380 : Ref sig .tc := ⟨.hbm, 445, rfl⟩
abbrev main_v381 : Ref sig .tc := ⟨.hbm, 446, rfl⟩
abbrev main_v382 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_cst_33 : Ref sig .tc := ⟨.hbm, 454, rfl⟩
abbrev main_v389 : Ref sig .tc := ⟨.hbm, 455, rfl⟩
abbrev main_v390 : Ref sig .tc := ⟨.hbm, 456, rfl⟩
abbrev main_cst_34 : Ref sig .tc := ⟨.hbm, 457, rfl⟩
abbrev main_v391 : Ref sig .tc := ⟨.hbm, 458, rfl⟩
abbrev main_v392 : Ref sig .tc := ⟨.hbm, 459, rfl⟩
abbrev main_v393 : Ref sig .tc := ⟨.hbm, 460, rfl⟩
abbrev main_v394 : Ref sig .tc := ⟨.hbm, 461, rfl⟩
abbrev main_v395 : Ref sig .tc := ⟨.hbm, 462, rfl⟩
abbrev main_cst_35 : Ref sig .tc := ⟨.hbm, 463, rfl⟩
abbrev main_v396 : Ref sig .tc := ⟨.hbm, 464, rfl⟩
abbrev main_v397 : Ref sig .tc := ⟨.hbm, 465, rfl⟩
abbrev main_cst_36 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_cst_37 : Ref sig .tc := ⟨.hbm, 471, rfl⟩
abbrev main_v402 : Ref sig .tc := ⟨.hbm, 472, rfl⟩
abbrev main_v403 : Ref sig .tc := ⟨.hbm, 473, rfl⟩
abbrev main_v404 : Ref sig .tc := ⟨.hbm, 474, rfl⟩
abbrev main_v405 : Ref sig .tc := ⟨.hbm, 475, rfl⟩
abbrev main_v406 : Ref sig .tc := ⟨.hbm, 476, rfl⟩
abbrev main_v407 : Ref sig .tc := ⟨.hbm, 477, rfl⟩
abbrev main_v408 : Ref sig .tc := ⟨.hbm, 478, rfl⟩
abbrev main_v409 : Ref sig .tc := ⟨.hbm, 479, rfl⟩
abbrev main_v410 : Ref sig .tc := ⟨.hbm, 480, rfl⟩
abbrev main_v411 : Ref sig .tc := ⟨.hbm, 481, rfl⟩
abbrev main_v412 : Ref sig .tc := ⟨.hbm, 482, rfl⟩
abbrev main_call7_v0 : Ref sig .tc := ⟨.hbm, 483, rfl⟩
abbrev main_call7_v1 : Ref sig .tc := ⟨.hbm, 484, rfl⟩
abbrev main_call7_cst : Ref sig .tc := ⟨.hbm, 485, rfl⟩
abbrev main_call7_v2 : Ref sig .tc := ⟨.hbm, 486, rfl⟩
abbrev main_call7_v3 : Ref sig .tc := ⟨.hbm, 487, rfl⟩
abbrev main_call7_cst_0 : Ref sig .tc := ⟨.hbm, 488, rfl⟩
abbrev main_call7_v4 : Ref sig .tc := ⟨.hbm, 489, rfl⟩
abbrev main_call7_v5 : Ref sig .tc := ⟨.hbm, 490, rfl⟩
abbrev main_v413 : Ref sig .tc := ⟨.hbm, 491, rfl⟩
abbrev main_call8_v0 : Ref sig .tc := ⟨.hbm, 492, rfl⟩
abbrev main_call8_v1 : Ref sig .tc := ⟨.hbm, 493, rfl⟩
abbrev main_call8_cst : Ref sig .tc := ⟨.hbm, 494, rfl⟩
abbrev main_call8_v2 : Ref sig .tc := ⟨.hbm, 495, rfl⟩
abbrev main_call8_v3 : Ref sig .tc := ⟨.hbm, 496, rfl⟩
abbrev main_call8_cst_0 : Ref sig .tc := ⟨.hbm, 497, rfl⟩
abbrev main_call8_v4 : Ref sig .tc := ⟨.hbm, 498, rfl⟩
abbrev main_call8_v5 : Ref sig .tc := ⟨.hbm, 499, rfl⟩
abbrev main_v414 : Ref sig .tc := ⟨.hbm, 500, rfl⟩
abbrev main_v415 : Ref sig .tc := ⟨.hbm, 501, rfl⟩
abbrev main_v416 : Ref sig .tc := ⟨.hbm, 502, rfl⟩
abbrev main_v417 : Ref sig .tc := ⟨.hbm, 503, rfl⟩
abbrev main_v418 : Ref sig .tc := ⟨.hbm, 504, rfl⟩
abbrev main_v419 : Ref sig .tc := ⟨.hbm, 505, rfl⟩

abbrev nD : Nat := 1
abbrev τ : Topo := Topo.v7x

variable {F : FTy → Type} [FloatOps F]
-- ==== Proof.Spec.lean ====
/-
  The layer's mathematics over the extended reals, on functions of natural-number coordinates: the normalised input, the
  in-projection, the normalised queries and keys, windowed attention with a sink, the gated causal convolution, and the
  out-projection with the residual. The kernel's tiles and the reference's stages are both read as these functions.
-/
module

public import Idealize.ShloMosaic.PureOps.Ideal
public import Idealize.ShloMosaic.Lib.ValueIdx

@[expose] public section

noncomputable section

namespace Cert.Layer

open Idealize.ShloMosaic

/-- The layer's arguments as functions of natural-number coordinates; `BT` is the additive mask and position bias of the
    first block of a sequence (`true`) and of the later ones, by head, query and key. -/
structure Args where
  X : ℕ → ℕ → ℕ → EReal
  NW : ℕ → EReal
  W : ℕ → ℕ → EReal
  QW : ℕ → EReal
  KW : ℕ → EReal
  SK : ℕ → EReal
  DW : ℕ → ℕ → EReal
  DB : ℕ → EReal
  LW : ℕ → EReal
  LB : ℕ → EReal
  WO : ℕ → ℕ → EReal
  BT : Bool → ℕ → ℕ → ℕ → EReal

/-- The root-mean-square epsilon, the layer norm's epsilon. -/
def eps6 : EReal := Ideal.ofBits .f32 0x358637BD#32
def eps5 : EReal := Ideal.ofBits .f32 0x3727C5AC#32

def silu (z : EReal) : EReal := z * Ideal.logistic z

variable (A : Args)

/-- The normalised input. -/
def h (b s c : ℕ) : EReal :=
  (A.X b s c * Ideal.rsqrt ((∑ e : Fin 1024, A.X b s e * A.X b s e) * ((1 / 1024 : ℝ) : EReal) + eps6)) * A.NW c

/-- The in-projection. -/
def pr (b s j : ℕ) : EReal := ∑ c : Fin 1024, h A b s c * A.W c j

/-- A head of 64 columns from column `o`, root-mean-square normalised, before its weight. -/
def nrm (b s o d : ℕ) : EReal :=
  pr A b s (o + d) * Ideal.rsqrt ((∑ e : Fin 64, pr A b s (o + e) * pr A b s (o + e)) * ((1 / 64 : ℝ) : EReal) + eps6)

def qn (b s n d : ℕ) : EReal := nrm A b s (64 * n) d * A.QW d
def kn (b s g d : ℕ) : EReal := nrm A b s (512 + 64 * g) d * A.KW d
def vv (b s g d : ℕ) : EReal := pr A b s (640 + 64 * g + d)

/-- Keys, values and the rows that exist, at row `t - 128`: the block before the sequence is zero. -/
def kp (b t g d : ℕ) : EReal := if t < 128 then 0 else kn A b (t - 128) g d
def vp (b t g d : ℕ) : EReal := if t < 128 then 0 else vv A b (t - 128) g d

/-- The logit of query `q` of block `k` and head `n` with key `s` of its window of two blocks. -/
def lo (b k n q s : ℕ) : EReal :=
  (∑ d : Fin 64, qn A b (128 * k + q) n d * kp A b (128 * k + s) (n / 4) d) * ((1 / 8 : ℝ) : EReal)
    + A.BT (decide (k = 0)) n q s

def mx (b k n q : ℕ) : EReal := max ((Finset.univ : Finset (Fin 256)).fold max (⊥ : EReal) fun s : Fin 256 => lo A b k n q s) (A.SK n)

/-- The weight of key `s`: zero for a key before the sequence. -/
def pm (b k n q s : ℕ) : EReal := if 128 * k + s < 128 then 0 else Ideal.exp (lo A b k n q s - mx A b k n q)

def den (b k n q : ℕ) : EReal := (∑ s : Fin 256, pm A b k n q s) + Ideal.exp (A.SK n - mx A b k n q)

def att (b k n q d : ℕ) : EReal :=
  ∑ s : Fin 256, Ideal.div (pm A b k n q s) (den A b k n q) * vp A b (128 * k + s) (n / 4) d

/-- The same with the division after the sum. -/
def attK (b k n q d : ℕ) : EReal :=
  Ideal.div (∑ s : Fin 256, Ideal.exp (lo A b k n q s - mx A b k n q) * vp A b (128 * k + s) (n / 4) d) (den A b k n q)

def ga (b s c : ℕ) : EReal := silu (pr A b s (768 + c))
def uu (b s c : ℕ) : EReal := pr A b s (1280 + c) * Ideal.logistic (pr A b s (1792 + c))
def gc (b s c : ℕ) : EReal := silu (pr A b s (2304 + c))

/-- The convolution's input at row `t - 30`. -/
def up (b t c : ℕ) : EReal := if t < 30 then 0 else uu A b (t - 30) c

/-- A sum of `n` terms from the left, from zero. -/
def chain (f : ℕ → EReal) : ℕ → EReal
  | 0 => 0
  | n + 1 => chain f n + f n

def cv (b s c : ℕ) : EReal := chain (fun j => A.DW j c * up A b (s + j) c) 31 + A.DB c
def mu (b s : ℕ) : EReal := (∑ c : Fin 512, cv A b s c) * ((1 / 512 : ℝ) : EReal)
def dv (b s c : ℕ) : EReal := cv A b s c - mu A b s
def vr (b s : ℕ) : EReal := (∑ c : Fin 512, dv A b s c * dv A b s c) * ((1 / 512 : ℝ) : EReal)
def yn (b s c : ℕ) : EReal := (dv A b s c * Ideal.rsqrt (vr A b s + eps5)) * A.LW c + A.LB c
def yc (b s c : ℕ) : EReal := silu (yn A b s c) * gc A b s c
def ya (b s c : ℕ) : EReal := att A b (s / 128) (c / 64) (s % 128) (c % 64) * ga A b s c
def yaK (b s c : ℕ) : EReal := attK A b (s / 128) (c / 64) (s % 128) (c % 64) * ga A b s c

/-- The out-projection's input, and the layer's result. -/
def yy (b s c : ℕ) : EReal := if c < 512 then ya A b s c else yc A b s (c - 512)
def yyK (b s c : ℕ) : EReal := if c < 512 then yaK A b s c else yc A b s (c - 512)
def out (b s n : ℕ) : EReal := A.X b s n + ∑ c : Fin 1024, yy A b s c * A.WO c n
def outK (b s n : ℕ) : EReal := A.X b s n + ∑ c : Fin 1024, yyK A b s c * A.WO c n

/-! ## The two orders of division agree where the weights are finite -/

theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top
      (by exact_mod_cast hc) (EReal.coe_ne_top c), mul_comm, mul_comm (c : EReal)]

theorem eps6_pos : ∃ r : ℝ, 0 < r ∧ eps6 = (r : EReal) := by
  refine ⟨_, ?_, by unfold eps6 Ideal.ofBits Ideal.ieee; simp; rfl⟩
  positivity

/-- A finite extended real is a real. -/
theorem exists_real {x : EReal} (h1 : x ≠ ⊤) (h2 : x ≠ ⊥) : ∃ r : ℝ, x = r := ⟨x.toReal, (EReal.coe_toReal h1 h2).symm⟩

theorem mul_self_nonneg' (x : EReal) : 0 ≤ x * x := by
  induction x using EReal.rec with
  | bot => simp
  | top => simp
  | coe r => exact_mod_cast mul_self_nonneg r

theorem nrm_real (b s o d : ℕ) (hd : d < 64) : ∃ r : ℝ, nrm A b s o d = r := by
  obtain ⟨ε, hε, he⟩ := eps6_pos
  unfold nrm
  rw [he]
  generalize hf : (fun e : ℕ => pr A b s (o + e)) = f
  have hfe : ∀ e, pr A b s (o + e) = f e := fun e => by rw [← hf]
  simp only [hfe]
  have hnn : (0 : EReal) ≤ ∑ e : Fin 64, f e * f e := Finset.sum_nonneg fun e _ => mul_self_nonneg' _
  by_cases hall : (∑ e : Fin 64, f e * f e) = ⊤
  · rw [hall, EReal.top_mul_coe_of_pos (by norm_num), EReal.top_add_coe, Ideal.rsqrt_top, mul_zero]
    exact ⟨0, rfl⟩
  · obtain ⟨t, ht⟩ := exists_real hall (fun hb => by rw [hb] at hnn; simp at hnn)
    have hfin : ∃ r : ℝ, f d = r := by
      have hle : f d * f d ≤ ∑ e : Fin 64, f e * f e :=
        Finset.single_le_sum (f := fun e : Fin 64 => f e * f e) (fun e _ => mul_self_nonneg' _) (Finset.mem_univ ⟨d, hd⟩)
      apply exists_real
      · intro h; rw [h] at hle; simp at hle; exact hall hle
      · intro h; rw [h] at hle; simp at hle; exact hall hle
    obtain ⟨r, hr⟩ := hfin
    have ht0 : 0 ≤ t := by rw [ht] at hnn; exact_mod_cast hnn
    have hp : 0 < t * (1 / 64) + ε := by positivity
    rw [ht, hr, ← EReal.coe_mul, ← EReal.coe_add, Ideal.rsqrt_coe, if_neg (not_lt.mpr hp.le), if_neg hp.ne', ← EReal.coe_mul]
    exact ⟨_, rfl⟩

/-- The finiteness the softmax asks of the arguments. -/
structure FinArgs : Prop where
  qw : ∀ d < 64, ∃ r : ℝ, A.QW d = r
  kw : ∀ d < 64, ∃ r : ℝ, A.KW d = r
  sk : ∀ n < 8, ∃ r : ℝ, A.SK n = r
  bt : ∀ f, ∀ n < 8, ∀ q < 128, ∀ s < 256, ∃ r : ℝ, A.BT f n q s = r

variable {A}

theorem sum_real {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

theorem lo_real (hA : FinArgs A) (b k n q s : ℕ) (hn : n < 8) (hq : q < 128) (hs : s < 256) : ∃ r : ℝ, lo A b k n q s = r := by
  unfold lo
  obtain ⟨x, hx⟩ := hA.bt (decide (k = 0)) n hn q hq s hs
  obtain ⟨y, hy⟩ : ∃ r : ℝ, ∑ d : Fin 64, qn A b (128 * k + q) n d * kp A b (128 * k + s) (n / 4) d = r := by
    apply sum_real
    intro d _
    obtain ⟨y1, h1⟩ := nrm_real A b (128 * k + q) (64 * n) d d.isLt
    obtain ⟨y2, h2⟩ := hA.qw d d.isLt
    obtain ⟨y3, h3⟩ : ∃ r : ℝ, kp A b (128 * k + s) (n / 4) d = r := by
      unfold kp
      split_ifs
      · exact ⟨0, rfl⟩
      · obtain ⟨z1, e1⟩ := nrm_real A b (128 * k + s - 128) (512 + 64 * (n / 4)) d d.isLt
        obtain ⟨z2, e2⟩ := hA.kw d d.isLt
        exact ⟨z1 * z2, by rw [kn, e1, e2, EReal.coe_mul]⟩
    exact ⟨y1 * y2 * y3, by rw [qn, h1, h2, h3, EReal.coe_mul, EReal.coe_mul]⟩
  exact ⟨y * (1 / 8) + x, by rw [hx, hy, EReal.coe_add, EReal.coe_mul]⟩

theorem mx_real (hA : FinArgs A) (b k n q : ℕ) (hn : n < 8) (hq : q < 128) : ∃ r : ℝ, mx A b k n q = r := by
  obtain ⟨x, hx⟩ := hA.sk n hn
  unfold mx
  rw [hx]
  apply exists_real
  · refine ne_of_lt ?_; rw [max_lt_iff]
    refine ⟨?_, EReal.coe_lt_top x⟩
    rw [Finset.fold_max_lt]
    exact ⟨(bot_lt_top : (⊥ : EReal) < ⊤), fun s _ => by obtain ⟨r, hr⟩ := lo_real hA b k n q s hn hq s.isLt; rw [hr]; exact EReal.coe_lt_top r⟩
  · refine ne_of_gt ?_; rw [lt_max_iff]
    exact Or.inr (EReal.bot_lt_coe x)

theorem den_real (hA : FinArgs A) (b k n q : ℕ) (hn : n < 8) (hq : q < 128) : ∃ r : ℝ, 0 < r ∧ den A b k n q = r := by
  obtain ⟨x, hx⟩ := hA.sk n hn
  obtain ⟨m, hm⟩ := mx_real hA b k n q hn hq
  obtain ⟨y, hy⟩ : ∃ r : ℝ, ∑ s : Fin 256, pm A b k n q s = r := by
    apply sum_real
    intro s _
    unfold pm
    split_ifs
    · exact ⟨0, rfl⟩
    · obtain ⟨l, hl⟩ := lo_real hA b k n q s hn hq s.isLt
      exact ⟨Real.exp (l - m), by rw [hl, hm, ← EReal.coe_sub, Ideal.exp_coe]⟩
  have hy0 : 0 ≤ y := by
    have : (0 : EReal) ≤ ∑ s : Fin 256, pm A b k n q s := Finset.sum_nonneg fun s _ => by
      unfold pm
      split_ifs
      · exact le_rfl
      · obtain ⟨l, hl⟩ := lo_real hA b k n q s hn hq s.isLt
        rw [hl, hm, ← EReal.coe_sub, Ideal.exp_coe]
        exact_mod_cast (Real.exp_pos _).le
    rw [hy] at this
    exact_mod_cast this
  refine ⟨y + Real.exp (x - m), by have := Real.exp_pos (x - m); linarith, ?_⟩
  unfold den
  rw [hy, hx, hm, ← EReal.coe_sub, Ideal.exp_coe, EReal.coe_add]

/-- Dividing after the sum is dividing each weight. -/
theorem attK_eq (hA : FinArgs A) (b k n q d : ℕ) (hn : n < 8) (hq : q < 128) : attK A b k n q d = att A b k n q d := by
  obtain ⟨r, hr, he⟩ := den_real hA b k n q hn hq
  unfold attK att
  rw [he, Ideal.div_coe hr.ne', sum_mul_coe _ _ _ (by positivity)]
  refine Finset.sum_congr rfl fun s _ => ?_
  rw [Ideal.div_coe hr.ne']
  unfold pm vp
  split_ifs
  · simp
  · rw [mul_right_comm]

theorem outK_eq (hA : FinArgs A) (b s n : ℕ) : outK A b s n = out A b s n := by
  unfold outK out
  congr 1
  refine Finset.sum_congr rfl fun c _ => ?_
  congr 1
  unfold yyK yy
  split_ifs with hc
  · unfold yaK ya
    rw [attK_eq hA _ _ _ _ _ (by omega) (by omega)]
  · rfl

end Cert.Layer
-- ==== Proof.Stage.lean ====
/-
  What the kernel's payloads are at an index, in the layer's terms: the normalised input's rows, the projections, the
  normalised queries and keys, the gates. Each lemma is about one form of a stage; the other pieces of the stage are the
  same expression cut at other places.
-/
module

public import proofs.«01_k».proof.Proof.Spec
public import proofs.«01_k».proof.Proof.Gen.KernelIdeal.Skeleton
public import Idealize.ShloMosaic.Lib.Pointwise
public import Idealize.ShloMosaic.Lib.Pointwise.Tactic

@[expose] public section

noncomputable section

namespace Cert.KV

open Cert.KernelIdeal Cert.KernelIdeal.Gen Idealize.ShloMosaic Cert.Layer

/-! ## Literals -/

theorem lit_1024 : Ideal.ofBits .f32 0x3A800000#32 = ((1 / 1024 : ℝ) : EReal) := by
  unfold Ideal.ofBits Ideal.ieee; simp; rw [← EReal.coe_mul]; norm_num
theorem lit_64 : Ideal.ofBits .f32 0x3C800000#32 = ((1 / 64 : ℝ) : EReal) := by
  unfold Ideal.ofBits Ideal.ieee; simp; rw [← EReal.coe_mul]; norm_num
theorem lit_512 : Ideal.ofBits .f32 0x3B000000#32 = ((1 / 512 : ℝ) : EReal) := by
  unfold Ideal.ofBits Ideal.ieee; simp; rw [← EReal.coe_mul]; norm_num
theorem lit_8 : Ideal.ofBits .f32 0x3E000000#32 = ((1 / 8 : ℝ) : EReal) := by
  unfold Ideal.ofBits Ideal.ieee; simp; rw [← EReal.coe_mul]; norm_num
theorem lit_1 : Ideal.ofBits .f32 0x3F800000#32 = 1 := by
  unfold Ideal.ofBits Ideal.ieee; simp; rw [← EReal.coe_mul]; norm_num
theorem lit_ninf : Ideal.ofBits .f32 0xFF800000#32 = ⊥ := by
  unfold Ideal.ofBits Ideal.ieee; simp

/-! ## An index by its coordinates -/

theorem ex_ix2 {m n : ℕ} (x : (⟨2, ![m, n]⟩ : Shape).Idx) : ∃ (r : Fin m) (c : Fin n), x = ix2 r c := ⟨x 0, x 1, eq_ix2 x⟩
theorem ex_ix3 {l m n : ℕ} (x : (⟨3, ![l, m, n]⟩ : Shape).Idx) : ∃ (a : Fin l) (r : Fin m) (c : Fin n), x = ix3 a r c :=
  ⟨x 0, x 1, x 2, eq_ix3 x⟩

variable {A : Args} {b : ℕ}

/-! ## The normalised input -/

theorem h_piece {s : ℕ} {X : Vec Ideal S1x64x1024 .f32} {W : Vec Ideal S1x1024 .f32}
    (hX : ∀ y, X y = A.X b (s + (y 1).val) (y 2).val) (hW : ∀ y, W y = A.NW (y 1).val) (x : S64x1024.Idx) :
    k0_pay8 (F := Ideal) X W x = h A b (s + (x 0).val) (x 1).val := by
  obtain ⟨r, c, rfl⟩ := ex_ix2 x
  unfold_payloads
  pointwise
  rw [lit_1024]
  simp only [hX, hW]
  rfl

/-! ## The projections -/

theorem proj_piece {s o : ℕ} {H : Vec Ideal S512x1024 .bf16} {W : Vec Ideal S1024x256 .bf16}
    (hH : ∀ y, H y = h A b (s + (y 0).val) (y 1).val) (hW : ∀ y, W y = A.W (y 0).val (o + (y 1).val)) (x : S512x256.Idx) :
    k0_pay28 (F := Ideal) H W x = pr A b (s + (x 0).val) (o + (x 1).val) := by
  obtain ⟨r, c, rfl⟩ := ex_ix2 x
  unfold_payloads
  pointwise [dot_S512x1024_S1024x256_S512x256_1_0_0_1_n_n]
  simp only [hH, hW]
  rfl

/-! ## Queries and keys -/

/-- A sum against the indicator of one group of 64 is the sum over the group. -/
theorem sum_head {n : ℕ} (f : ℕ → EReal) {g : ℕ} (hg : 64 * g + 64 ≤ n) :
    (∑ e : Fin n, f e.val * (if e.val / 64 = g then (1 : EReal) else 0)) = ∑ d : Fin 64, f (64 * g + d.val) := by
  rw [Fin.sum_univ_eq_sum_range (fun e => f e * (if e / 64 = g then (1 : EReal) else 0)) n,
    Fin.sum_univ_eq_sum_range (fun d => f (64 * g + d)) 64]
  simp only [mul_ite, mul_one, mul_zero]
  rw [← Finset.sum_filter]
  refine (Finset.sum_nbij (fun d => 64 * g + d) ?_ ?_ ?_ ?_).symm
  · intro d hd; simp at hd ⊢; omega
  · intro d _ e _ h; simpa using h
  · intro e he
    simp at he
    exact ⟨e - 64 * g, by simp; omega, by simp; omega⟩
  · intro d _; rfl

theorem q_piece {s o : ℕ} (ho : o % 64 = 0) {B : Vec Ideal S256x256 .bf16} {H : Vec Ideal S512x1024 .bf16}
    {W : Vec Ideal S1024x256 .bf16} {Q : Vec Ideal S1x256 .f32}
    (hB : ∀ y, B y = if (y 0).val / 64 = (y 1).val / 64 then 1 else 0)
    (hH : ∀ y, H y = h A b (s + (y 0).val) (y 1).val) (hW : ∀ y, W y = A.W (y 0).val (o + (y 1).val))
    (hQ : ∀ y, Q y = A.QW ((o + (y 1).val) % 64) * ((1 / 8 : ℝ) : EReal)) (x : S512x256.Idx) :
    k0_pay26 (F := Ideal) B H W Q x
      = qn A b (s + (x 0).val) ((o + (x 1).val) / 64) ((o + (x 1).val) % 64) * ((1 / 8 : ℝ) : EReal) := by
  obtain ⟨r, c, rfl⟩ := ex_ix2 x
  have hp : ∀ (r : Fin 512) (c : Fin 256), (∑ x, H (ix2 r x) * W (ix2 x c)) = pr A b (s + r.val) (o + c.val) := fun r c => by
    simp only [hH, hW]; rfl
  unfold_payloads
  pointwise [dot_S512x1024_S1024x256_S512x256_1_0_0_1_n_n, dot_S512x256_S256x256_S512x256_1_0_0_1_n_n]
  have hB' : ∀ p q : Fin 256, B (ix2 p q) = if p.val / 64 = q.val / 64 then 1 else 0 := fun p q => hB (ix2 p q)
  have hQ' : ∀ p q, Q (ix2 p q) = A.QW ((o + q.val) % 64) * ((1 / 8 : ℝ) : EReal) := fun p q => hQ (ix2 p q)
  rw [lit_64]
  simp only [hp, hB', hQ']
  have e1 : o + c.val = 64 * ((o + c.val) / 64) + (o + c.val) % 64 := by omega
  have e2 : ∀ d : ℕ, o + (64 * (c.val / 64) + d) = 64 * ((o + c.val) / 64) + d := fun d => by omega
  rw [show (∑ e : Fin 256, pr A b (s + r.val) (o + e.val) * pr A b (s + r.val) (o + e.val)
        * (if e.val / 64 = c.val / 64 then (1 : EReal) else 0))
      = ∑ d : Fin 64, pr A b (s + r.val) (64 * ((o + c.val) / 64) + d.val) * pr A b (s + r.val) (64 * ((o + c.val) / 64) + d.val) from by
    rw [sum_head (fun e => pr A b (s + r.val) (o + e) * pr A b (s + r.val) (o + e)) (by omega)]
    simp only [e2]]
  unfold qn nrm
  rw [← mul_assoc, ← e1]
  rfl

theorem k_piece {s : ℕ} {B : Vec Ideal S256x256 .bf16} {H : Vec Ideal S512x1024 .bf16}
    {W : Vec Ideal S1024x256 .bf16} {Q : Vec Ideal S1x128 .f32}
    (hB : ∀ y, B y = if (y 0).val / 64 = (y 1).val / 64 then 1 else 0)
    (hH : ∀ y, H y = h A b (s + (y 0).val) (y 1).val) (hW : ∀ y, W y = A.W (y 0).val (512 + (y 1).val))
    (hQ : ∀ y, Q y = A.KW ((y 1).val % 64)) (x : S512x128.Idx) :
    k0_pay31 (k0_pay30 (F := Ideal) (k0_pay25 B) H W) Q x = kn A b (s + (x 0).val) ((x 1).val / 64) ((x 1).val % 64) := by
  obtain ⟨r, c, rfl⟩ := ex_ix2 x
  have hp : ∀ (r : Fin 512) (c : Fin 256), (∑ x, H (ix2 r x) * W (ix2 x c)) = pr A b (s + r.val) (512 + c.val) := fun r c => by
    simp only [hH, hW]; rfl
  unfold_payloads
  pointwise [dot_S512x1024_S1024x256_S512x256_1_0_0_1_n_n, dot_S512x128_S128x128_S512x128_1_0_0_1_n_n]
  have hB' : ∀ p q : Fin 256, B (ix2 p q) = if p.val / 64 = q.val / 64 then 1 else 0 := fun p q => hB (ix2 p q)
  have hQ' : ∀ p q, Q (ix2 p q) = A.KW (q.val % 64) := fun p q => hQ (ix2 p q)
  rw [lit_64]
  simp only [hp, hB', hQ']
  have e2 : ∀ d : ℕ, 512 + (64 * (c.val / 64) + d) = 512 + 64 * (c.val / 64) + d := fun d => by omega
  have e1 : 512 + c.val = 512 + 64 * (c.val / 64) + c.val % 64 := by omega
  rw [show (∑ e : Fin 128, pr A b (s + r.val) (512 + e.val) * pr A b (s + r.val) (512 + e.val)
        * (if e.val / 64 = c.val / 64 then (1 : EReal) else 0))
      = ∑ d : Fin 64, pr A b (s + r.val) (512 + 64 * (c.val / 64) + d.val) * pr A b (s + r.val) (512 + 64 * (c.val / 64) + d.val) from by
    rw [sum_head (fun e => pr A b (s + r.val) (512 + e) * pr A b (s + r.val) (512 + e)) (by omega)]
    simp only [e2]]
  unfold kn nrm
  rw [← e1]
  rfl

/-- The lane test: below 64 or not. -/
theorem lane (c : Fin 128) (p q : EReal) :
    Scalar.select (IntOp.cmpi CmpIPredicate.slt (BitVec.ofNat 32 c.val) 64#32) p q = if c.val < 64 then p else q := by
  have h : ∀ c : Fin 128, IntOp.cmpi CmpIPredicate.slt (BitVec.ofNat 32 c.val) 64#32 = if c.val < 64 then 1#1 else 0#1 := by
    decide +kernel
  rw [h c]
  split <;> rfl

theorem ks_piece {s : ℕ} {V : Vec Ideal S512x128 .f32} {Q : Vec Ideal S1x128 .f32}
    (hK : ∀ y, k0_pay31 V Q y = kn A b (s + (y 0).val) ((y 1).val / 64) ((y 1).val % 64)) (x : S1x512x128.Idx) :
    k0_pay37 V Q x = (if (x 2).val / 64 = 0 then kn A b (s + (x 1).val) 0 ((x 2).val % 64) else 0)
    ∧ k0_pay38 V Q x = (if (x 2).val / 64 = 1 then kn A b (s + (x 1).val) 0 ((x 2).val % 64) else 0)
    ∧ k0_pay39 V Q x = (if (x 2).val / 64 = 0 then kn A b (s + (x 1).val) 1 ((x 2).val % 64) else 0)
    ∧ k0_pay40 V Q x = (if (x 2).val / 64 = 1 then kn A b (s + (x 1).val) 1 ((x 2).val % 64) else 0) := by
  obtain ⟨a, r, c, rfl⟩ := ex_ix3 x
  refine ⟨?_, ?_, ?_, ?_⟩
  · unfold k0_pay37
    generalize k0_pay31 V Q = K at hK ⊢
    unfold_payloads
    pointwise
    simp only [hK, lane]
    by_cases hc : c.val < 64
    · rw [if_pos hc, if_pos (by show c.val / 64 = 0; omega)]
      show kn A b (s + r.val) (c.val / 64) (c.val % 64) = kn A b (s + r.val) 0 (c.val % 64)
      rw [show c.val / 64 = 0 by omega]
    · rw [if_neg hc, if_neg (by show ¬ c.val / 64 = 0; omega)]
  · unfold k0_pay38 k0_pay32
    generalize k0_pay31 V Q = K at hK ⊢
    unfold_payloads
    pointwise
    simp only [hK, lane]
    by_cases hc : c.val < 64
    · rw [if_pos hc, if_neg (by show ¬ c.val / 64 = 1; omega)]
    · rw [if_neg hc, if_pos (by show c.val / 64 = 1; omega)]
      show kn A b (s + r.val) ((c.val + 128 - 64) % 128 / 64) ((c.val + 128 - 64) % 128 % 64) = kn A b (s + r.val) 0 (c.val % 64)
      congr 1 <;> omega
  · unfold k0_pay39 k0_pay32
    generalize k0_pay31 V Q = K at hK ⊢
    unfold_payloads
    pointwise
    simp only [hK, lane]
    by_cases hc : c.val < 64
    · rw [if_pos hc, if_pos (by show c.val / 64 = 0; omega)]
      show kn A b (s + r.val) ((c.val + 128 - 64) % 128 / 64) ((c.val + 128 - 64) % 128 % 64) = kn A b (s + r.val) 1 (c.val % 64)
      congr 1 <;> omega
    · rw [if_neg hc, if_neg (by show ¬ c.val / 64 = 0; omega)]
  · unfold k0_pay40
    generalize k0_pay31 V Q = K at hK ⊢
    unfold_payloads
    pointwise
    simp only [hK, lane]
    by_cases hc : c.val < 64
    · rw [if_pos hc, if_neg (by show ¬ c.val / 64 = 1; omega)]
    · rw [if_neg hc, if_pos (by show c.val / 64 = 1; omega)]
      show kn A b (s + r.val) (c.val / 64) (c.val % 64) = kn A b (s + r.val) 1 (c.val % 64)
      rw [show c.val / 64 = 1 by omega]

/-! ## Values with their indicator columns -/

theorem vs_piece {s : ℕ} {V : FVec Ideal S512x128 .f32}
    (hV : ∀ y, V y = vv A b (s + (y 0).val) ((y 1).val / 64) ((y 1).val % 64)) (x : S1x512x128.Idx) :
    k0_pay44 (k0_pay43 V) x = (if (x 2).val / 64 = 0 then vv A b (s + (x 1).val) 0 ((x 2).val % 64) else 0)
    ∧ k0_pay45 (k0_pay33 V) k0_pay34 k0_pay35 x = (if (x 2).val / 64 = 1 then vv A b (s + (x 1).val) 0 ((x 2).val % 64) else 0)
    ∧ k0_pay46 (k0_pay33 V) k0_pay34 k0_pay35 x = (if (x 2).val / 64 = 0 then vv A b (s + (x 1).val) 1 ((x 2).val % 64) else 0)
    ∧ k0_pay47 V k0_pay34 k0_pay35 x = (if (x 2).val / 64 = 1 then vv A b (s + (x 1).val) 1 ((x 2).val % 64) else 0) := by
  obtain ⟨a, r, c, rfl⟩ := ex_ix3 x
  refine ⟨?_, ?_, ?_, ?_⟩
  · unfold_payloads
    pointwise
    simp only [hV, lane]
    by_cases hc : c.val < 64
    · rw [if_pos hc, if_pos (by show c.val / 64 = 0; omega)]
      show vv A b (s + r.val) (c.val / 64) (c.val % 64) = vv A b (s + r.val) 0 (c.val % 64)
      rw [show c.val / 64 = 0 by omega]
    · rw [if_neg hc, if_neg (by show ¬ c.val / 64 = 0; omega)]
  · unfold_payloads
    pointwise
    simp only [hV, lane]
    by_cases hc : c.val < 64
    · rw [if_pos hc, if_neg (by show ¬ c.val / 64 = 1; omega)]
    · rw [if_neg hc, if_pos (by show c.val / 64 = 1; omega)]
      show vv A b (s + r.val) ((c.val + 128 - 64) % 128 / 64) ((c.val + 128 - 64) % 128 % 64) = vv A b (s + r.val) 0 (c.val % 64)
      congr 1 <;> omega
  · unfold_payloads
    pointwise
    simp only [hV, lane]
    by_cases hc : c.val < 64
    · rw [if_pos hc, if_pos (by show c.val / 64 = 0; omega)]
      show vv A b (s + r.val) ((c.val + 128 - 64) % 128 / 64) ((c.val + 128 - 64) % 128 % 64) = vv A b (s + r.val) 1 (c.val % 64)
      congr 1 <;> omega
    · rw [if_neg hc, if_neg (by show ¬ c.val / 64 = 0; omega)]
  · unfold_payloads
    pointwise
    simp only [hV, lane]
    by_cases hc : c.val < 64
    · rw [if_pos hc, if_neg (by show ¬ c.val / 64 = 1; omega)]
    · rw [if_neg hc, if_pos (by show c.val / 64 = 1; omega)]
      show vv A b (s + r.val) (c.val / 64) (c.val % 64) = vv A b (s + r.val) 1 (c.val % 64)
      rw [show c.val / 64 = 1 by omega]

theorem ones_piece (x : S1x512x128.Idx) :
    k0_pay48 (F := Ideal) k0_pay41 x = (if (x 2).val / 64 = 0 then 1 else 0)
    ∧ k0_pay49 (F := Ideal) k0_pay42 x = (if (x 2).val / 64 = 1 then 1 else 0) := by
  obtain ⟨a, r, c, rfl⟩ := ex_ix3 x
  refine ⟨?_, ?_⟩
  · unfold_payloads
    pointwise
    simp only [lane, lit_1]
    by_cases hc : c.val < 64
    · rw [if_pos hc]
      exact (if_pos (show c.val / 64 = 0 by omega)).symm
    · rw [if_neg hc]
      exact (if_neg (show ¬ c.val / 64 = 0 by omega)).symm
  · unfold_payloads
    pointwise
    simp only [lane, lit_1]
    by_cases hc : c.val < 64
    · rw [if_pos hc]
      exact (if_neg (show ¬ c.val / 64 = 1 by omega)).symm
    · rw [if_neg hc]
      exact (if_pos (show c.val / 64 = 1 by omega)).symm

/-! ## Gates, the convolution's input, the result -/

theorem gate_piece {s o : ℕ} {H : Vec Ideal S512x1024 .bf16} {W : Vec Ideal S1024x256 .bf16}
    (hH : ∀ y, H y = h A b (s + (y 0).val) (y 1).val) (hW : ∀ y, W y = A.W (y 0).val (o + (y 1).val)) (x : S512x256.Idx) :
    k0_pay52 (F := Ideal) H W x = silu (pr A b (s + (x 0).val) (o + (x 1).val)) := by
  obtain ⟨r, c, rfl⟩ := ex_ix2 x
  have hp : (∑ x, H (ix2 r x) * W (ix2 x c)) = pr A b (s + r.val) (o + c.val) := by
    simp only [hH, hW]; rfl
  unfold_payloads
  pointwise [dot_S512x1024_S1024x256_S512x256_1_0_0_1_n_n]
  rw [hp]
  rfl

theorem u_piece {s o o' : ℕ} {H H' : Vec Ideal S512x1024 .bf16} {W W' : Vec Ideal S1024x256 .bf16}
    (hH : ∀ y, H y = h A b (s + (y 0).val) (y 1).val) (hW : ∀ y, W y = A.W (y 0).val (o + (y 1).val))
    (hH' : ∀ y, H' y = h A b (s + (y 0).val) (y 1).val) (hW' : ∀ y, W' y = A.W (y 0).val (o' + (y 1).val)) (x : S512x256.Idx) :
    k0_pay53 (F := Ideal) H W H' W' x
      = pr A b (s + (x 0).val) (o + (x 1).val) * Ideal.logistic (pr A b (s + (x 0).val) (o' + (x 1).val)) := by
  obtain ⟨r, c, rfl⟩ := ex_ix2 x
  have hp : (∑ x, H (ix2 r x) * W (ix2 x c)) = pr A b (s + r.val) (o + c.val) := by
    simp only [hH, hW]; rfl
  have hp' : (∑ x, H' (ix2 r x) * W' (ix2 x c)) = pr A b (s + r.val) (o' + c.val) := by
    simp only [hH', hW']; rfl
  unfold_payloads
  pointwise [dot_S512x1024_S1024x256_S512x256_1_0_0_1_n_n]
  rw [hp, hp']

theorem out_piece {s o : ℕ} {X : Vec Ideal S1x512x256 .f32} {Y : Vec Ideal S512x1024 .bf16} {W : Vec Ideal S1024x256 .bf16}
    (hX : ∀ y, X y = A.X b (s + (y 1).val) (o + (y 2).val)) (hY : ∀ y, Y y = yyK A b (s + (y 0).val) (y 1).val)
    (hW : ∀ y, W y = A.WO (y 0).val (o + (y 1).val)) (x : S1x512x256.Idx) :
    k0_pay549 (F := Ideal) X Y W x = outK A b (s + (x 1).val) (o + (x 2).val) := by
  obtain ⟨a, r, c, rfl⟩ := ex_ix3 x
  unfold_payloads
  pointwise [dot_S512x1024_S1024x256_S512x256_1_0_0_1_n_n]
  simp only [hX, hY, hW]
  rfl

/-! ## The layer norm of the convolution -/

theorem ln_piece {s : ℕ} {C : Vec Ideal S64x512 .f32} {LW LB : Vec Ideal S1x512 .f32} {G : Vec Ideal S64x512 .f32}
    (hC : ∀ y, C y = cv A b (s + (y 0).val) (y 1).val) (hLW : ∀ y, LW y = A.LW (y 1).val) (hLB : ∀ y, LB y = A.LB (y 1).val)
    (hG : ∀ y, G y = gc A b (s + (y 0).val) (y 1).val) (x : S64x512.Idx) :
    k0_pay358 (F := Ideal) (k0_pay356 C) (k0_pay357 C) LW LB G x = yc A b (s + (x 0).val) (x 1).val := by
  obtain ⟨r, c, rfl⟩ := ex_ix2 x
  unfold_payloads
  pointwise
  rw [lit_512]
  simp only [hC, hLW, hLB, hG]
  rfl

end Cert.KV
-- ==== Proof.Att.lean ====
module

public import proofs.«01_k».proof.Proof.Stage

@[expose] public section

namespace Cert.KV

open Cert.KernelIdeal Cert.KernelIdeal.Gen Idealize.ShloMosaic Cert.Layer

variable {A : Args} {b : ℕ}

/-- The 128 lanes of a head pair against keys that sit in one half of the lanes. -/
theorem sum_half (f w : ℕ → EReal) {e : ℕ} (he : e < 2) :
    (∑ x : Fin 128, f x.val * (if x.val / 64 = e then w (x.val % 64) else 0)) = ∑ d : Fin 64, f (64 * e + d.val) * w d.val := by
  have h1 : ∀ x : ℕ, f x * (if x / 64 = e then w (x % 64) else 0) = (f x * w (x % 64)) * (if x / 64 = e then (1 : EReal) else 0) := by
    intro x; split <;> simp
  simp only [h1]
  rw [sum_head (n := 128) (fun x => f x * w (x % 64)) (by omega)]
  refine Finset.sum_congr rfl fun d _ => ?_
  have := d.isLt
  rw [show (64 * e + d.val) % 64 = d.val by omega]

/-- What the logits of a head pair read: the two query tiles, the keys of one half, the bias. -/
theorem lo_piece {k g e : ℕ} (he : e < 2) (hg : g < 2) {q0 q1 : Vec Ideal S128x128 .bf16} {K : Vec Ideal S1x256x128 .bf16}
    {B : Vec Ideal S1x1x256x256 .f32}
    (h0 : ∀ y, q0 y = qn A b (128 * k + (y 0).val) ((256 * g + (y 1).val) / 64) ((256 * g + (y 1).val) % 64) * ((1 / 8 : ℝ) : EReal))
    (h1 : ∀ y, q1 y = qn A b (128 * k + (y 0).val) ((256 * g + 128 + (y 1).val) / 64) ((256 * g + 128 + (y 1).val) % 64) * ((1 / 8 : ℝ) : EReal))
    (hK : ∀ y, K y = if (y 2).val / 64 = e then kp A b (128 * k + (y 1).val) g ((y 2).val % 64) else 0)
    (hB : ∀ y, B y = A.BT (decide (k = 0)) (4 * g + 2 * ((y 2).val / 128) + e) ((y 2).val % 128) (y 3).val) (y : S256x256.Idx) :
    k0_pay524 (F := Ideal) q0 q1 K B y = lo A b k (4 * g + 2 * ((y 0).val / 128) + e) ((y 0).val % 128) (y 1).val := by
  obtain ⟨q, t, rfl⟩ := ex_ix2 y
  have hQ : ∀ (q : Fin 256) (c : Fin 128), k0_pay523 (F := Ideal) q0 q1 (ix2 q c)
      = qn A b (128 * k + q.val % 128) ((256 * g + 128 * (q.val / 128) + c.val) / 64) ((256 * g + 128 * (q.val / 128) + c.val) % 64) * ((1 / 8 : ℝ) : EReal) := by
    intro q c
    unfold_payloads
    pointwise
    split
    · next hq =>
      have e : q.val / 128 = 0 := by omega
      rw [Nat.mod_eq_of_lt hq, e]
      exact h0 (ix2 ⟨q.val, hq⟩ c)
    · next hq =>
      have e : q.val / 128 = 1 := by omega
      rw [show q.val % 128 = q.val - 128 by omega, e]
      exact h1 (ix2 ⟨q.val - 128, by omega⟩ c)
  unfold k0_pay524
  generalize k0_pay523 (F := Ideal) q0 q1 = Q at hQ ⊢
  pointwise [dot_S256x128_S256x128_S256x256_1_1_0_0_n_n]
  have hK' : ∀ x : Fin 128, K (ix3 0 t x) = if x.val / 64 = e then kp A b (128 * k + t.val) g (x.val % 64) else 0 :=
    fun x => hK (ix3 0 t x)
  have hB' : B (ix4 0 0 q t) = A.BT (decide (k = 0)) (4 * g + 2 * (q.val / 128) + e) (q.val % 128) t.val := hB (ix4 0 0 q t)
  simp only [hQ, hK', hB']
  rw [sum_half (fun x => qn A b (128 * k + q.val % 128) ((256 * g + 128 * (q.val / 128) + x) / 64)
    ((256 * g + 128 * (q.val / 128) + x) % 64) * ((1 / 8 : ℝ) : EReal)) (fun d => kp A b (128 * k + t.val) g d) he]
  show _ = lo A b k (4 * g + 2 * (q.val / 128) + e) (q.val % 128) t.val
  unfold lo
  rw [sum_mul_coe _ _ _ (by norm_num)]
  congr 1
  refine Finset.sum_congr rfl fun d _ => ?_
  have hd := d.isLt
  have hq := q.isLt
  rw [show (256 * g + 128 * (q.val / 128) + (64 * e + d.val)) / 64 = 4 * g + 2 * (q.val / 128) + e by omega,
    show (256 * g + 128 * (q.val / 128) + (64 * e + d.val)) % 64 = d.val by omega,
    show (4 * g + 2 * (q.val / 128) + e) / 4 = g by omega]
  rw [mul_assoc, mul_comm ((1 / 8 : ℝ) : EReal), ← mul_assoc]

/-- The same logits in the other cut of the text. -/
theorem lo_piece' (q0 q1 : Vec Ideal S128x128 .bf16) (K : Vec Ideal S1x256x128 .bf16) (B : Vec Ideal S1x1x256x256 .f32) :
    k0_pay535 (F := Ideal) (k0_pay523 q0 q1) K B = k0_pay524 q0 q1 K B := rfl

theorem low_rows {k g e : ℕ} {L : FVec Ideal S256x256 .f32}
    (hL : ∀ y, L y = lo A b k (4 * g + 2 * ((y 0).val / 128) + e) ((y 0).val % 128) (y 1).val) (r : Fin 128) (x : Fin 256) :
    extractStridedSlice S128x256 ![0, 0] L slices_S256x256_o0_0_S128x256 (ix2 r x) = lo A b k (4 * g + e) r.val x.val := by
  pointwise
  refine (hL _).trans ?_
  show lo A b k (4 * g + 2 * (r.val / 128) + e) (r.val % 128) x.val = _
  rw [show r.val / 128 = 0 by omega, Nat.mod_eq_of_lt r.isLt, Nat.mul_zero, Nat.add_zero]

theorem high_rows {k g e : ℕ} {L : FVec Ideal S256x256 .f32}
    (hL : ∀ y, L y = lo A b k (4 * g + 2 * ((y 0).val / 128) + e) ((y 0).val % 128) (y 1).val) (r : Fin 128) (x : Fin 256) :
    extractStridedSlice S128x256 ![128, 0] L slices_S256x256_o128_0_S128x256 (ix2 r x) = lo A b k (4 * g + 2 + e) r.val x.val := by
  pointwise
  refine (hL _).trans ?_
  show lo A b k (4 * g + 2 * ((128 + r.val) / 128) + e) ((128 + r.val) % 128) x.val = _
  rw [show (128 + r.val) / 128 = 1 by omega, show (128 + r.val) % 128 = r.val by omega]

/-- The row maximum with the sink. -/
theorem max_rows {k n : ℕ} {D : FVec Ideal S128x256 .f32} {sk : Elt Ideal .f32}
    (hD : ∀ (r : Fin 128) (x : Fin 256), D (ix2 r x) = lo A b k n r.val x.val) (hs : sk = A.SK n) (r : Fin 128) :
    maximumf (shapeCast S128x1 (multiReduction .maximumf [1] S128 D 0xFF800000#32 reduces_S128x256_S128 (.inl rfl) rfl)
      shapeCasts_S128_S128x1) (broadcast S128x1 sk) (ix2 r 0) = mx A b k n r.val := by
  pointwise
  rw [lit_ninf]
  simp only [hD, hs]
  rfl

/-- The two heads' sums, the lanes of the other head being zero. -/
theorem att_core {k g j : ℕ} {V0 V1 : Vec Ideal S1x256x256 .bf16}
    (hV0 : ∀ y, V0 y = if (y 2).val < 128 then (if (y 2).val / 64 = 0 then vp A b (128 * k + (y 1).val) g ((y 2).val % 64) else 0)
      else (if ((y 2).val - 128) / 64 = 0 then (if 128 * k + (y 1).val < 128 then 0 else 1) else 0))
    (hV1 : ∀ y, V1 y = if (y 2).val < 128 then (if (y 2).val / 64 = 1 then vp A b (128 * k + (y 1).val) g ((y 2).val % 64) else 0)
      else (if ((y 2).val - 128) / 64 = 1 then (if 128 * k + (y 1).val < 128 then 0 else 1) else 0))
    (hj : j < 2) (r c : Fin 128) (h1 : c.val < 256) (h2 : 128 + c.val < 256) :
    Ideal.div (∑ x : Fin 256, Ideal.exp (lo A b k (4 * g + 2 * j) r.val x.val - mx A b k (4 * g + 2 * j) r.val) * V0 (ix3 0 x ⟨c.val, h1⟩)
        + ∑ x : Fin 256, Ideal.exp (lo A b k (4 * g + 2 * j + 1) r.val x.val - mx A b k (4 * g + 2 * j + 1) r.val) * V1 (ix3 0 x ⟨c.val, h1⟩))
      (∑ x : Fin 256, Ideal.exp (lo A b k (4 * g + 2 * j) r.val x.val - mx A b k (4 * g + 2 * j) r.val) * V0 (ix3 0 x ⟨128 + c.val, h2⟩)
        + ∑ x : Fin 256, Ideal.exp (lo A b k (4 * g + 2 * j + 1) r.val x.val - mx A b k (4 * g + 2 * j + 1) r.val) * V1 (ix3 0 x ⟨128 + c.val, h2⟩)
        + Scalar.select (IntOp.cmpi CmpIPredicate.slt (BitVec.ofNat 32 c.val) 64#32)
          (Ideal.exp (A.SK (4 * g + 2 * j) - mx A b k (4 * g + 2 * j) r.val)) (Ideal.exp (A.SK (4 * g + 2 * j + 1) - mx A b k (4 * g + 2 * j + 1) r.val)))
      = attK A b k (4 * g + 2 * j + c.val / 64) r.val (c.val % 64) := by
  have a0 : ∀ x : Fin 256, V0 (ix3 0 x ⟨c.val, h1⟩) = if c.val / 64 = 0 then vp A b (128 * k + x.val) g (c.val % 64) else 0 := fun x =>
    (hV0 _).trans (if_pos c.isLt)
  have a1 : ∀ x : Fin 256, V1 (ix3 0 x ⟨c.val, h1⟩) = if c.val / 64 = 1 then vp A b (128 * k + x.val) g (c.val % 64) else 0 := fun x =>
    (hV1 _).trans (if_pos c.isLt)
  have b0 : ∀ x : Fin 256, V0 (ix3 0 x ⟨128 + c.val, h2⟩) = if c.val / 64 = 0 then (if 128 * k + x.val < 128 then 0 else 1) else 0 := fun x => by
    refine (hV0 _).trans ((if_neg (show ¬ 128 + c.val < 128 by omega)).trans ?_)
    show (if (128 + c.val - 128) / 64 = 0 then _ else _) = _
    rw [Nat.add_sub_cancel_left]
    rfl
  have b1 : ∀ x : Fin 256, V1 (ix3 0 x ⟨128 + c.val, h2⟩) = if c.val / 64 = 1 then (if 128 * k + x.val < 128 then 0 else 1) else 0 := fun x => by
    refine (hV1 _).trans ((if_neg (show ¬ 128 + c.val < 128 by omega)).trans ?_)
    show (if (128 + c.val - 128) / 64 = 1 then _ else _) = _
    rw [Nat.add_sub_cancel_left]
    rfl
  have hpm : ∀ (n : ℕ) (x : Fin 256), Ideal.exp (lo A b k n r.val x.val - mx A b k n r.val) * (if 128 * k + x.val < 128 then (0 : EReal) else 1)
      = pm A b k n r.val x.val := fun n x => by
    unfold pm; split <;> simp
  simp only [a0, a1, b0, b1, lane]
  have hc := c.isLt
  by_cases h : c.val < 64
  · have e : c.val / 64 = 0 := by omega
    simp only [e, h, if_true, if_false, zero_ne_one, mul_zero, Finset.sum_const_zero, add_zero, hpm]
    unfold attK den
    rw [show (4 * g + 2 * j) / 4 = g by omega]
  · have e : c.val / 64 = 1 := by omega
    simp only [e, h, if_true, if_false, one_ne_zero, mul_zero, Finset.sum_const_zero, zero_add, hpm]
    unfold attK den
    rw [show (4 * g + 2 * j + 1) / 4 = g by omega]

/-- What one key-value group reads for one block of queries. -/
structure Group (A : Args) (b k g : ℕ) (q0 q1 : Vec Ideal S128x128 .bf16) (K0 K1 : Vec Ideal S1x256x128 .bf16)
    (B0 B1 : Vec Ideal S1x1x256x256 .f32) (V0 V1 : Vec Ideal S1x256x256 .bf16) : Prop where
  hg : g < 2
  q0 : ∀ y, q0 y = qn A b (128 * k + (y 0).val) ((256 * g + (y 1).val) / 64) ((256 * g + (y 1).val) % 64) * ((1 / 8 : ℝ) : EReal)
  q1 : ∀ y, q1 y = qn A b (128 * k + (y 0).val) ((256 * g + 128 + (y 1).val) / 64) ((256 * g + 128 + (y 1).val) % 64) * ((1 / 8 : ℝ) : EReal)
  k0 : ∀ y, K0 y = if (y 2).val / 64 = 0 then kp A b (128 * k + (y 1).val) g ((y 2).val % 64) else 0
  k1 : ∀ y, K1 y = if (y 2).val / 64 = 1 then kp A b (128 * k + (y 1).val) g ((y 2).val % 64) else 0
  b0 : ∀ y, B0 y = A.BT (decide (k = 0)) (4 * g + 2 * ((y 2).val / 128) + 0) ((y 2).val % 128) (y 3).val
  b1 : ∀ y, B1 y = A.BT (decide (k = 0)) (4 * g + 2 * ((y 2).val / 128) + 1) ((y 2).val % 128) (y 3).val
  v0 : ∀ y, V0 y = if (y 2).val < 128 then (if (y 2).val / 64 = 0 then vp A b (128 * k + (y 1).val) g ((y 2).val % 64) else 0)
      else (if ((y 2).val - 128) / 64 = 0 then (if 128 * k + (y 1).val < 128 then 0 else 1) else 0)
  v1 : ∀ y, V1 y = if (y 2).val < 128 then (if (y 2).val / 64 = 1 then vp A b (128 * k + (y 1).val) g ((y 2).val % 64) else 0)
      else (if ((y 2).val - 128) / 64 = 1 then (if 128 * k + (y 1).val < 128 then 0 else 1) else 0)

theorem ya_split {k g j : ℕ} (hj : j < 2) (r c : Fin 128) :
    attK A b k (4 * g + 2 * j + c.val / 64) r.val (c.val % 64) * ga A b (128 * k + r.val) (256 * g + 128 * j + c.val)
      = yaK A b (128 * k + r.val) (256 * g + 128 * j + c.val) := by
  have := r.isLt
  have := c.isLt
  unfold yaK
  rw [show (128 * k + r.val) / 128 = k by omega, show (128 * k + r.val) % 128 = r.val by omega,
    show (256 * g + 128 * j + c.val) / 64 = 4 * g + 2 * j + c.val / 64 by omega, show (256 * g + 128 * j + c.val) % 64 = c.val % 64 by omega]

section
variable {k g : ℕ} {q0 q1 : Vec Ideal S128x128 .bf16} {K0 K1 : Vec Ideal S1x256x128 .bf16}
    {B0 B1 : Vec Ideal S1x1x256x256 .f32} {V0 V1 : Vec Ideal S1x256x256 .bf16} {s00 s01 s10 s11 : Elt Ideal .f32} {G : Vec Ideal S128x128 .f32}

theorem att0 (hGr : Group A b k g q0 q1 K0 K1 B0 B1 V0 V1) (h00 : s00 = A.SK (4 * g)) (h10 : s10 = A.SK (4 * g + 1))
    (hG : ∀ y, G y = ga A b (128 * k + (y 0).val) (256 * g + (y 1).val)) (x : S128x128.Idx) :
    k0_pay545 k0_pay376 (k0_pay528 (F := Ideal) q0 q1 K0 B0 s00) (k0_pay534 (k0_pay527 q0 q1 K0 B0 s00) (k0_pay531 q0 q1 K0 B0 s01) V0)
      (k0_pay538 (k0_pay523 q0 q1) K1 B1 s10) (k0_pay542 (k0_pay523 q0 q1) K1 B1 s10 s11) (k0_pay543 V1) G x
      = yaK A b (128 * k + (x 0).val) (256 * g + (x 1).val) := by
  obtain ⟨r, c, rfl⟩ := ex_ix2 x
  have hL0 := lo_piece (A := A) (b := b) (by omega : 0 < 2) hGr.hg hGr.q0 hGr.q1 hGr.k0 hGr.b0
  have hL1 := lo_piece (A := A) (b := b) (by omega : 1 < 2) hGr.hg hGr.q0 hGr.q1 hGr.k1 hGr.b1
  have hL00 : ∀ r x, k0_pay525 (F := Ideal) q0 q1 K0 B0 (ix2 r x) = _ := low_rows hL0
  have hL10 : ∀ r x, k0_pay536 (F := Ideal) (k0_pay523 q0 q1) K1 B1 (ix2 r x) = _ := low_rows hL1
  have hM00 : ∀ r, k0_pay526 (F := Ideal) q0 q1 K0 B0 s00 (ix2 r 0) = _ := max_rows hL00 h00
  have hM10 : ∀ r, k0_pay537 (F := Ideal) (k0_pay523 q0 q1) K1 B1 s10 (ix2 r 0) = _ := max_rows hL10 h10
  unfold k0_pay545 k0_pay544 k0_pay543 k0_pay534 k0_pay527 k0_pay531 k0_pay528 k0_pay538 k0_pay542
  generalize k0_pay526 (F := Ideal) q0 q1 K0 B0 s00 = M00 at hM00 ⊢
  generalize k0_pay530 (F := Ideal) q0 q1 K0 B0 s01 = M01
  generalize k0_pay537 (F := Ideal) (k0_pay523 q0 q1) K1 B1 s10 = M10 at hM10 ⊢
  generalize k0_pay540 (F := Ideal) (k0_pay523 q0 q1) K1 B1 s11 = M11
  generalize k0_pay525 (F := Ideal) q0 q1 K0 B0 = L00 at hL00 ⊢
  generalize k0_pay529 (F := Ideal) q0 q1 K0 B0 = L01
  generalize k0_pay536 (F := Ideal) (k0_pay523 q0 q1) K1 B1 = L10 at hL10 ⊢
  generalize k0_pay539 (F := Ideal) (k0_pay523 q0 q1) K1 B1 = L11
  unfold_payloads
  pointwise [dot_S256x256_S256x256_S256x256_1_0_0_1_n_n]
  simp only [hL00, hL10, hM00, hM10, h00, h10]
  have e := att_core hGr.v0 hGr.v1 (show 0 < 2 by omega) r c (by omega) (by omega)
  refine (congrArg₂ (· * ·) e (hG (ix2 r c))).trans ?_
  exact ya_split (by omega) r c

theorem att1 (hGr : Group A b k g q0 q1 K0 K1 B0 B1 V0 V1) (h01 : s01 = A.SK (4 * g + 2)) (h11 : s11 = A.SK (4 * g + 3))
    (hG : ∀ y, G y = ga A b (128 * k + (y 0).val) (256 * g + 128 + (y 1).val)) (x : S128x128.Idx) :
    k0_pay546 k0_pay376 (k0_pay533 (k0_pay530 (F := Ideal) q0 q1 K0 B0 s01) (k0_pay532 s01))
      (k0_pay534 (k0_pay527 q0 q1 K0 B0 s00) (k0_pay531 q0 q1 K0 B0 s01) V0)
      (k0_pay541 (k0_pay523 q0 q1) K1 B1 s11) (k0_pay542 (k0_pay523 q0 q1) K1 B1 s10 s11) (k0_pay543 V1) G x
      = yaK A b (128 * k + (x 0).val) (256 * g + 128 + (x 1).val) := by
  obtain ⟨r, c, rfl⟩ := ex_ix2 x
  have hL0 := lo_piece (A := A) (b := b) (by omega : 0 < 2) hGr.hg hGr.q0 hGr.q1 hGr.k0 hGr.b0
  have hL1 := lo_piece (A := A) (b := b) (by omega : 1 < 2) hGr.hg hGr.q0 hGr.q1 hGr.k1 hGr.b1
  have hL01 : ∀ r x, k0_pay529 (F := Ideal) q0 q1 K0 B0 (ix2 r x) = _ := high_rows hL0
  have hL11 : ∀ r x, k0_pay539 (F := Ideal) (k0_pay523 q0 q1) K1 B1 (ix2 r x) = _ := high_rows hL1
  have hM01 : ∀ r, k0_pay530 (F := Ideal) q0 q1 K0 B0 s01 (ix2 r 0) = _ := max_rows hL01 h01
  have hM11 : ∀ r, k0_pay540 (F := Ideal) (k0_pay523 q0 q1) K1 B1 s11 (ix2 r 0) = _ := max_rows hL11 h11
  unfold k0_pay546 k0_pay544 k0_pay543 k0_pay534 k0_pay527 k0_pay531 k0_pay533 k0_pay532 k0_pay541 k0_pay542
  generalize k0_pay526 (F := Ideal) q0 q1 K0 B0 s00 = M00
  generalize k0_pay530 (F := Ideal) q0 q1 K0 B0 s01 = M01 at hM01 ⊢
  generalize k0_pay537 (F := Ideal) (k0_pay523 q0 q1) K1 B1 s10 = M10
  generalize k0_pay540 (F := Ideal) (k0_pay523 q0 q1) K1 B1 s11 = M11 at hM11 ⊢
  generalize k0_pay525 (F := Ideal) q0 q1 K0 B0 = L00
  generalize k0_pay529 (F := Ideal) q0 q1 K0 B0 = L01 at hL01 ⊢
  generalize k0_pay536 (F := Ideal) (k0_pay523 q0 q1) K1 B1 = L10
  generalize k0_pay539 (F := Ideal) (k0_pay523 q0 q1) K1 B1 = L11 at hL11 ⊢
  unfold_payloads
  pointwise [dot_S256x256_S256x256_S256x256_1_0_0_1_n_n]
  simp only [Nat.reduceAdd, Nat.add_sub_cancel_left, Nat.lt_irrefl, show ∀ r : Fin 128, ¬ 128 + r.val < 128 from fun r => by omega, dif_neg, not_false_eq_true, Fin.eta, hL01, hL11, hM01, hM11, h01, h11]
  have e := att_core hGr.v0 hGr.v1 (show 1 < 2 by omega) r c (by omega) (by omega)
  refine (congrArg₂ (· * ·) e (hG (ix2 r c))).trans ?_
  exact ya_split (by omega) r c

end

end Cert.KV
-- ==== Proof.Pieces.lean ====
/-
  Stored pieces that are all blocks of one array: the steps by which a run's piece list is walked.
-/
module

public import Idealize.ShloMosaic.Lib.Pipeline.ValueKit
public import Idealize.ShloMosaic.Lib.Pipeline.ReadBack

@[expose] public section

namespace Cert.KV

open Idealize.ShloMosaic

variable {s : Shape} {e : EltTy} {Val : EltTy → Type}

/-- One more piece that is a block of `G`. -/
theorem pieces_cons {G : s.Idx → Val e} {r : Rect s} {w : r.shape.Idx → Val e} {L : List (View.Piece Val s e)}
    (h : ∀ x : r.shape.Idx, w x = G (r.emb x)) (hL : View.PiecesOf G L) : View.PiecesOf G (⟨r, w⟩ :: L) := ⟨h, hL⟩

theorem pieces_nil {G : s.Idx → Val e} : View.PiecesOf G ([] : List (View.Piece Val s e)) := trivial

/-- Pieces that are all blocks of `G` and cover the shape leave `G`. -/
theorem canon_eq [∀ e, Nonempty (Val e)] {G : s.Idx → Val e} {L : List (View.Piece Val s e)} (h : View.PiecesOf G L)
    (hc : ∀ y, ∃ p ∈ L, y ∈ p.1.set) : View.canon L = G :=
  funext fun y => View.canon_apply_of_pieces G L h.mem y (hc y)

end Cert.KV
-- ==== Proof.Tile.lean ====
module

public import proofs.«01_k».proof.Proof.Att
public import proofs.«01_k».proof.Proof.Pieces
public import proofs.«01_k».proof.Proof.Gen.KernelIdeal.Frame.Runs
public import Idealize.ShloMosaic.Lib.Pipeline.ValueKit
public import Idealize.ShloMosaic.Lib.Tactic.RunNames

@[expose] public section

/-! What the operands of one tile of rows are, in the words of the layer, and what each load of them reads. -/

namespace Cert.KV

open Cert.KernelIdeal Cert.KernelIdeal.Gen Idealize.ShloMosaic Cert.Layer

/-- The operands of the tile of rows from row `s` of batch `b`; only the first tile of a batch starts at row 0. -/
structure Tile (A : Args) (b s : ℕ) (i : grid0.Coords) (x0 : Vec Ideal S8 .f32) (x1 : Vec Ideal S1x512x1024 .f32)
    (x2 : Vec Ideal S1x1024 .f32) (x3 : Vec Ideal S1024x2816 .bf16) (x4 : Vec Ideal S1x512 .f32) (x5 : Vec Ideal S1x128 .f32)
    (x6 : Vec Ideal S256x256 .bf16) (x7 : Vec Ideal S32x512 .f32) (x8 x9 x10 : Vec Ideal S1x512 .f32)
    (x11 : Vec Ideal S1024x1024 .bf16) (x12 : Vec Ideal S2x4x256x256 .f32) : Prop where
  dvd : 512 ∣ s
  first : (i 1).val = 0 ↔ s = 0
  x0 : ∀ y, x0 y = A.SK (y 0).val
  x1 : ∀ y, x1 y = A.X b (s + (y 1).val) (y 2).val
  x2 : ∀ y, x2 y = A.NW (y 1).val
  x3 : ∀ y, x3 y = A.W (y 0).val (y 1).val
  x4 : ∀ y, x4 y = A.QW ((y 1).val % 64) * ((1 / 8 : ℝ) : EReal)
  x5 : ∀ y, x5 y = A.KW ((y 1).val % 64)
  x6 : ∀ y, x6 y = if (y 0).val / 64 = (y 1).val / 64 then 1 else 0
  x7 : ∀ y, x7 y = A.DW (y 0).val (y 1).val
  x8 : ∀ y, x8 y = A.DB (y 1).val
  x9 : ∀ y, x9 y = A.LW (y 1).val
  x10 : ∀ y, x10 y = A.LB (y 1).val
  x11 : ∀ y, x11 y = A.WO (y 0).val (y 1).val
  x12 : ∀ y, x12 y = A.BT (decide ((y 0).val = 1)) (4 * ((y 1).val / 2) + 2 * ((y 2).val / 128) + (y 1).val % 2) ((y 2).val % 128) (y 3).val

variable {A : Args} {b s : ℕ}

/-! The carried buffers of a tile that starts at row `s`, each with the rows before the tile that it keeps. -/

noncomputable def ksF (A : Args) (b s : ℕ) (y : S4x640x128.Idx) : EReal :=
  if (y 2).val / 64 = (y 0).val % 2 then kp A b (s + (y 1).val) ((y 0).val / 2) ((y 2).val % 64) else 0

noncomputable def vsF (A : Args) (b s : ℕ) (y : S4x640x256.Idx) : EReal :=
  if (y 2).val < 128 then (if (y 2).val / 64 = (y 0).val % 2 then vp A b (s + (y 1).val) ((y 0).val / 2) ((y 2).val % 64) else 0)
  else (if ((y 2).val - 128) / 64 = (y 0).val % 2 then (if s + (y 1).val < 128 then 0 else 1) else 0)

noncomputable def usF (A : Args) (b s : ℕ) (y : S544x512.Idx) : EReal :=
  if s + (y 0).val < 32 then 0 else uu A b (s + (y 0).val - 32) (y 1).val

/-- Two functions of row and column at equal rows and columns. -/
theorem at2 (f : ℕ → ℕ → EReal) {r r' c c' : ℕ} (hr : r = r') (hc : c = c') : f r c = f r' c' := by rw [hr, hc]

variable {i : grid0.Coords} {x0 : Vec Ideal S8 .f32} {x1 : Vec Ideal S1x512x1024 .f32}
    {x2 : Vec Ideal S1x1024 .f32} {x3 : Vec Ideal S1024x2816 .bf16} {x4 : Vec Ideal S1x512 .f32} {x5 : Vec Ideal S1x128 .f32}
    {x6 : Vec Ideal S256x256 .bf16} {x7 : Vec Ideal S32x512 .f32} {x8 x9 x10 : Vec Ideal S1x512 .f32}
    {x11 : Vec Ideal S1024x1024 .bf16} {x12 : Vec Ideal S2x4x256x256 .f32}

namespace Tile

theorem ldx (hT : Tile A b s i x0 x1 x2 x3 x4 x5 x6 x7 x8 x9 x10 x11 x12) {o : ℕ} (inb) (y : S1x64x1024.Idx) :
    View.ld x1 (Rect.unit ![0, o, 0] ![1, 64, 1024] inb) y = A.X b (s + o + (y 1).val) (y 2).val := by
  refine (hT.x1 _).trans (at2 _ ?_ ?_) <;> rw [Rect.idx_unit_val]
  · exact (Nat.add_assoc _ _ _).symm
  · exact Nat.zero_add _

theorem ldw (hT : Tile A b s i x0 x1 x2 x3 x4 x5 x6 x7 x8 x9 x10 x11 x12) {o : ℕ} (inb) (y : S1024x256.Idx) :
    View.ld x3 (Rect.unit ![0, o] ![1024, 256] inb) y = A.W (y 0).val (o + (y 1).val) := by
  refine (hT.x3 _).trans (at2 _ ?_ ?_) <;> rw [Rect.idx_unit_val]
  · exact Nat.zero_add _
  · rfl

theorem ldnw (hT : Tile A b s i x0 x1 x2 x3 x4 x5 x6 x7 x8 x9 x10 x11 x12) (inb) (y : S1x1024.Idx) :
    View.ld x2 (Rect.unit ![0, 0] ![1, 1024] inb) y = A.NW (y 1).val := by
  refine (hT.x2 _).trans (congrArg A.NW ?_)
  rw [Rect.idx_unit_val]
  exact Nat.zero_add _

theorem ldqw (hT : Tile A b s i x0 x1 x2 x3 x4 x5 x6 x7 x8 x9 x10 x11 x12) {o : ℕ} (inb) (y : S1x256.Idx) :
    View.ld x4 (Rect.unit ![0, o] ![1, 256] inb) y = A.QW ((o + (y 1).val) % 64) * ((1 / 8 : ℝ) : EReal) := by
  refine (hT.x4 _).trans ?_
  rw [Rect.idx_unit_val]
  rfl

theorem ldkw (hT : Tile A b s i x0 x1 x2 x3 x4 x5 x6 x7 x8 x9 x10 x11 x12) (inb) (y : S1x128.Idx) :
    View.ld x5 (Rect.unit ![0, 0] ![1, 128] inb) y = A.KW ((y 1).val % 64) := by
  refine (hT.x5 _).trans ?_
  rw [Rect.idx_unit_val]
  exact congrArg (fun n => A.KW (n % 64)) (Nat.zero_add _)

theorem ldbd (hT : Tile A b s i x0 x1 x2 x3 x4 x5 x6 x7 x8 x9 x10 x11 x12) (inb) (y : S256x256.Idx) :
    View.ld x6 (Rect.unit ![0, 0] ![256, 256] inb) y = if (y 0).val / 64 = (y 1).val / 64 then 1 else 0 := by
  refine (hT.x6 _).trans ?_
  rw [Rect.idx_unit_val, Rect.idx_unit_val]
  exact at2 (fun p q => if p / 64 = q / 64 then (1 : EReal) else 0) (Nat.zero_add _) (Nat.zero_add _)

theorem lddw (hT : Tile A b s i x0 x1 x2 x3 x4 x5 x6 x7 x8 x9 x10 x11 x12) {j o : ℕ} (inb) (y : S1x128.Idx) :
    View.ld x7 (Rect.unit ![j, o] ![1, 128] inb) y = A.DW j (o + (y 1).val) := by
  refine (hT.x7 _).trans (at2 _ ?_ ?_) <;> rw [Rect.idx_unit_val]
  · exact congrArg (j + ·) (Nat.lt_one_iff.mp (y 0).isLt)
  · rfl

theorem lddb (hT : Tile A b s i x0 x1 x2 x3 x4 x5 x6 x7 x8 x9 x10 x11 x12) {o : ℕ} (inb) (y : S1x128.Idx) :
    View.ld x8 (Rect.unit ![0, o] ![1, 128] inb) y = A.DB (o + (y 1).val) := by
  refine (hT.x8 _).trans ?_
  rw [Rect.idx_unit_val]
  rfl

theorem ldlw (hT : Tile A b s i x0 x1 x2 x3 x4 x5 x6 x7 x8 x9 x10 x11 x12) (inb) (y : S1x512.Idx) :
    View.ld x9 (Rect.unit ![0, 0] ![1, 512] inb) y = A.LW (y 1).val := by
  refine (hT.x9 _).trans (congrArg A.LW ?_)
  rw [Rect.idx_unit_val]
  exact Nat.zero_add _

theorem ldlb (hT : Tile A b s i x0 x1 x2 x3 x4 x5 x6 x7 x8 x9 x10 x11 x12) (inb) (y : S1x512.Idx) :
    View.ld x10 (Rect.unit ![0, 0] ![1, 512] inb) y = A.LB (y 1).val := by
  refine (hT.x10 _).trans (congrArg A.LB ?_)
  rw [Rect.idx_unit_val]
  exact Nat.zero_add _

theorem ldwo (hT : Tile A b s i x0 x1 x2 x3 x4 x5 x6 x7 x8 x9 x10 x11 x12) {o : ℕ} (inb) (y : S1024x256.Idx) :
    View.ld x11 (Rect.unit ![0, o] ![1024, 256] inb) y = A.WO (y 0).val (o + (y 1).val) := by
  refine (hT.x11 _).trans (at2 _ ?_ ?_) <;> rw [Rect.idx_unit_val]
  · exact Nat.zero_add _
  · rfl

theorem ldx' (hT : Tile A b s i x0 x1 x2 x3 x4 x5 x6 x7 x8 x9 x10 x11 x12) {o : ℕ} (inb) (y : S1x512x256.Idx) :
    View.ld x1 (Rect.unit ![0, 0, o] ![1, 512, 256] inb) y = A.X b (s + (y 1).val) (o + (y 2).val) := by
  refine (hT.x1 _).trans (at2 _ ?_ ?_) <;> rw [Rect.idx_unit_val]
  · exact congrArg (s + ·) (Nat.zero_add _)
  · rfl

theorem ldsk (hT : Tile A b s i x0 x1 x2 x3 x4 x5 x6 x7 x8 x9 x10 x11 x12) {n : ℕ} (inb) (y : S1.Idx) :
    View.ld x0 (Rect.unit ![n] ![1] inb) y = A.SK n := by
  refine (hT.x0 _).trans (congrArg A.SK ?_)
  rw [Rect.idx_unit_val]
  exact congrArg (n + ·) (Nat.lt_one_iff.mp (y 0).isLt)

end Tile

/-! ## Where a tile's own rows sit in the carried buffers -/

theorem ks_at {p : ℕ} (inb) (x : S1x512x128.Idx) :
    (if (x 2).val / 64 = p % 2 then kn A b (s + (x 1).val) (p / 2) ((x 2).val % 64) else 0)
      = ksF A b s ((Rect.unit (s := S4x640x128) ![p, 128, 0] ![1, 512, 128] inb).emb x) := by
  have h0 : ((Rect.unit (s := S4x640x128) ![p, 128, 0] ![1, 512, 128] inb).emb x 0).val = p := by
    rw [ValueKit.rect_emb_unit_val]
    exact congrArg (p + ·) (Nat.lt_one_iff.mp (x 0).isLt)
  have h1 : ((Rect.unit (s := S4x640x128) ![p, 128, 0] ![1, 512, 128] inb).emb x 1).val = 128 + (x 1).val := ValueKit.rect_emb_unit_val _ _ _ _ _
  have h2 : ((Rect.unit (s := S4x640x128) ![p, 128, 0] ![1, 512, 128] inb).emb x 2).val = (x 2).val := by
    rw [ValueKit.rect_emb_unit_val]
    exact Nat.zero_add _
  unfold ksF kp
  rw [h0, h1, h2, if_neg (show ¬ s + (128 + (x 1).val) < 128 by omega), show s + (128 + (x 1).val) - 128 = s + (x 1).val by omega]

theorem vs_at {p : ℕ} (inb) (x : S1x512x128.Idx) :
    (if (x 2).val / 64 = p % 2 then vv A b (s + (x 1).val) (p / 2) ((x 2).val % 64) else 0)
      = vsF A b s ((Rect.unit (s := S4x640x256) ![p, 128, 0] ![1, 512, 128] inb).emb x) := by
  have h0 : ((Rect.unit (s := S4x640x256) ![p, 128, 0] ![1, 512, 128] inb).emb x 0).val = p := by
    rw [ValueKit.rect_emb_unit_val]
    exact congrArg (p + ·) (Nat.lt_one_iff.mp (x 0).isLt)
  have h1 : ((Rect.unit (s := S4x640x256) ![p, 128, 0] ![1, 512, 128] inb).emb x 1).val = 128 + (x 1).val := ValueKit.rect_emb_unit_val _ _ _ _ _
  have h2 : ((Rect.unit (s := S4x640x256) ![p, 128, 0] ![1, 512, 128] inb).emb x 2).val = (x 2).val := by
    rw [ValueKit.rect_emb_unit_val]
    exact Nat.zero_add _
  unfold vsF vp
  rw [h0, h1, h2, if_pos (show (x 2).val < 128 from (x 2).isLt), if_neg (show ¬ s + (128 + (x 1).val) < 128 by omega),
    show s + (128 + (x 1).val) - 128 = s + (x 1).val by omega]

theorem ones_at {p : ℕ} (inb) (x : S1x512x128.Idx) :
    (if (x 2).val / 64 = p % 2 then 1 else 0) = vsF A b s ((Rect.unit (s := S4x640x256) ![p, 128, 128] ![1, 512, 128] inb).emb x) := by
  have h0 : ((Rect.unit (s := S4x640x256) ![p, 128, 128] ![1, 512, 128] inb).emb x 0).val = p := by
    rw [ValueKit.rect_emb_unit_val]
    exact congrArg (p + ·) (Nat.lt_one_iff.mp (x 0).isLt)
  have h1 : ((Rect.unit (s := S4x640x256) ![p, 128, 128] ![1, 512, 128] inb).emb x 1).val = 128 + (x 1).val := ValueKit.rect_emb_unit_val _ _ _ _ _
  have h2 : ((Rect.unit (s := S4x640x256) ![p, 128, 128] ![1, 512, 128] inb).emb x 2).val = 128 + (x 2).val := ValueKit.rect_emb_unit_val _ _ _ _ _
  unfold vsF
  rw [h0, h1, h2, if_neg (show ¬ 128 + (x 2).val < 128 by omega), if_neg (show ¬ s + (128 + (x 1).val) < 128 by omega),
    Nat.add_sub_cancel_left]

theorem us_at {o : ℕ} (inb) (x : S512x256.Idx) :
    uu A b (s + (x 0).val) (o + (x 1).val) = usF A b s ((Rect.unit (s := S544x512) ![32, o] ![512, 256] inb).emb x) := by
  have h0 : ((Rect.unit (s := S544x512) ![32, o] ![512, 256] inb).emb x 0).val = 32 + (x 0).val := ValueKit.rect_emb_unit_val _ _ _ _ _
  have h1 : ((Rect.unit (s := S544x512) ![32, o] ![512, 256] inb).emb x 1).val = o + (x 1).val := ValueKit.rect_emb_unit_val _ _ _ _ _
  unfold usF
  rw [h0, h1, if_neg (show ¬ s + (32 + (x 0).val) < 32 by omega), show s + (32 + (x 0).val) - 32 = s + (x 0).val by omega]

theorem ks_halo (inb) (x : S4x128x128.Idx) : (0 : EReal) = ksF A b 0 ((Rect.unit (s := S4x640x128) ![0, 0, 0] ![4, 128, 128] inb).emb x) := by
  have h1 : ((Rect.unit (s := S4x640x128) ![0, 0, 0] ![4, 128, 128] inb).emb x 1).val = (x 1).val := by
    rw [ValueKit.rect_emb_unit_val]
    exact Nat.zero_add _
  have hx : (x 1).val < 128 := (x 1).isLt
  unfold ksF kp
  rw [h1, if_pos (show 0 + (x 1).val < 128 by omega), ite_self]

theorem vs_halo (inb) (x : S4x128x256.Idx) : (0 : EReal) = vsF A b 0 ((Rect.unit (s := S4x640x256) ![0, 0, 0] ![4, 128, 256] inb).emb x) := by
  have h1 : ((Rect.unit (s := S4x640x256) ![0, 0, 0] ![4, 128, 256] inb).emb x 1).val = (x 1).val := by
    rw [ValueKit.rect_emb_unit_val]
    exact Nat.zero_add _
  have hx : (x 1).val < 128 := (x 1).isLt
  unfold vsF vp
  rw [h1, if_pos (show 0 + (x 1).val < 128 by omega), if_pos (show 0 + (x 1).val < 128 by omega), ite_self, ite_self, ite_self]

theorem us_halo (inb) (x : S32x512.Idx) : (0 : EReal) = usF A b 0 ((Rect.unit (s := S544x512) ![0, 0] ![32, 512] inb).emb x) := by
  have h1 : ((Rect.unit (s := S544x512) ![0, 0] ![32, 512] inb).emb x 0).val = (x 0).val := by
    rw [ValueKit.rect_emb_unit_val]
    exact Nat.zero_add _
  have hx : (x 0).val < 32 := (x 0).isLt
  unfold usF
  rw [h1, if_pos (show 0 + (x 0).val < 32 by omega)]

theorem zero_rows (x : S4x128x128.Idx) : k0_pay2 (F := Ideal) x = 0 := by
  obtain ⟨a, r, c, rfl⟩ := ex_ix3 x
  unfold_payloads
  pointwise

theorem zero_rows' (x : S4x128x256.Idx) : k0_pay3 (F := Ideal) x = 0 := by
  obtain ⟨a, r, c, rfl⟩ := ex_ix3 x
  unfold_payloads
  pointwise

theorem zero_rows'' (x : S32x512.Idx) : k0_pay4 (F := Ideal) x = 0 := by
  obtain ⟨r, c, rfl⟩ := ex_ix2 x
  unfold_payloads
  pointwise

/-- The normalised rows, loaded whole. -/
theorem h_whole (inb) (y : S512x1024.Idx) :
    h A b (s + ((Rect.unit ![0, 0] ![512, 1024] inb : Rect S512x1024).idx y 0).val) ((Rect.unit ![0, 0] ![512, 1024] inb : Rect S512x1024).idx y 1).val
      = h A b (s + (y 0).val) (y 1).val := by
  rw [Rect.idx_unit_val, Rect.idx_unit_val]
  exact at2 (fun p q => h A b (s + p) q) (Nat.zero_add _) (Nat.zero_add _)

/-- The values' columns of the projection. -/
theorem v_piece {H : Vec Ideal S512x1024 .bf16} {W : Vec Ideal S1024x256 .bf16}
    (hH : ∀ y, H y = h A b (s + (y 0).val) (y 1).val) (hW : ∀ y, W y = A.W (y 0).val (512 + (y 1).val)) (y : S512x128.Idx) :
    k0_pay29 (F := Ideal) H W y = vv A b (s + (y 0).val) ((y 1).val / 64) ((y 1).val % 64) := by
  obtain ⟨r, c, rfl⟩ := ex_ix2 y
  unfold k0_pay29
  have hp := proj_piece hH hW
  generalize k0_pay28 (F := Ideal) H W = P at hp ⊢
  pointwise
  refine (hp _).trans (at2 _ rfl ?_)
  show 512 + (128 + c.val) = 640 + 64 * (c.val / 64) + c.val % 64
  omega

end Cert.KV
-- ==== Proof.RunA.lean ====
module

public import proofs.«01_k».proof.Proof.Tile
public import proofs.«01_k».proof.Proof.Gen.KernelIdeal.Frame

@[expose] public section

/-! What the buffers of the first tile of a batch hold after its body. -/

namespace Cert.KV

open Cert.KernelIdeal Cert.KernelIdeal.Gen Idealize.ShloMosaic Idealize.ShloMosaic.TcCoe Cert.Layer

variable {A : Args} {b : ℕ}

variable (c : Dev nD) (i : grid0.Coords) (arg2 : Memref sig .tc .smem S8 .f32) (harg2 : arg2.IsWhole)
  (arg3 : Memref sig .tc .vmem S1x512x1024 .f32) (harg3 : arg3.IsWhole) (arg4 : Memref sig .tc .vmem S1x1024 .f32)
  (harg4 : arg4.IsWhole) (arg5 : Memref sig .tc .vmem S1024x2816 .bf16) (harg5 : arg5.IsWhole)
  (arg6 : Memref sig .tc .vmem S1x512 .f32) (harg6 : arg6.IsWhole) (arg7 : Memref sig .tc .vmem S1x128 .f32)
  (harg7 : arg7.IsWhole) (arg8 : Memref sig .tc .vmem S256x256 .bf16) (harg8 : arg8.IsWhole)
  (arg9 : Memref sig .tc .vmem S32x512 .f32) (harg9 : arg9.IsWhole) (arg10 : Memref sig .tc .vmem S1x512 .f32)
  (harg10 : arg10.IsWhole) (arg11 : Memref sig .tc .vmem S1x512 .f32) (harg11 : arg11.IsWhole)
  (arg12 : Memref sig .tc .vmem S1x512 .f32) (harg12 : arg12.IsWhole) (arg13 : Memref sig .tc .vmem S1024x1024 .bf16)
  (harg13 : arg13.IsWhole) (arg14 : Memref sig .tc .vmem S2x4x256x256 .f32) (harg14 : arg14.IsWhole)
  (arg15 : Memref sig .tc .vmem S1x512x1024 .f32) (harg15 : arg15.IsWhole) (arg16 : Memref sig .tc .vmem S512x1024 .bf16)
  (harg16 : arg16.IsWhole) (arg17 : Memref sig .tc .vmem S512x512 .bf16) (harg17 : arg17.IsWhole)
  (arg18 : Memref sig .tc .vmem S4x640x128 .bf16) (harg18 : arg18.IsWhole) (arg19 : Memref sig .tc .vmem S4x640x256 .bf16)
  (harg19 : arg19.IsWhole) (arg20 : Memref sig .tc .vmem S544x512 .f32) (harg20 : arg20.IsWhole)
  (arg21 : Memref sig .tc .vmem S512x512 .f32) (harg21 : arg21.IsWhole) (arg22 : Memref sig .tc .vmem S512x512 .f32)
  (harg22 : arg22.IsWhole) (arg23 : Memref sig .tc .vmem S512x512 .f32) (harg23 : arg23.IsWhole)
  (arg24 : Memref sig .tc .vmem S512x1024 .bf16) (harg24 : arg24.IsWhole) (hc0 : cond0_0 i) (hc1 : ¬cond0_1 i)
  (x0 : Vec Ideal S8 .f32) (x1 : Vec Ideal S1x512x1024 .f32) (x2 : Vec Ideal S1x1024 .f32) (x3 : Vec Ideal S1024x2816 .bf16)
  (x4 : Vec Ideal S1x512 .f32) (x5 : Vec Ideal S1x128 .f32) (x6 : Vec Ideal S256x256 .bf16) (x7 : Vec Ideal S32x512 .f32)
  (x8 : Vec Ideal S1x512 .f32) (x9 : Vec Ideal S1x512 .f32) (x10 : Vec Ideal S1x512 .f32) (x11 : Vec Ideal S1024x1024 .bf16)
  (x12 : Vec Ideal S2x4x256x256 .f32)
  (hT : Tile A b 0 i x0 x1 x2 x3 x4 x5 x6 x7 x8 x9 x10 x11 x12)

include hT in
theorem A_H : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).2.2.2.2.1 = fun y => h A b (0 + (y 0).val) (y 1).val := by
  refine canon_eq ?_ (View.cover_of_tiledBy _ ![64, 1024] (by sl_kernel_rfl))
  unfold kernelRun0_A
  dsimp only
  repeat (refine pieces_cons ?_ ?_; swap)
  exact pieces_nil
  all_goals
    sl_unfold_run_values
    (try simp only [View.readAt_eq_ld, harg3.read_unread, harg4.read_unread])
    intro x
    refine (h_piece (hT.ldx _) (hT.ldnw _) x).trans ?_
    exact at2 _ (by rw [ValueKit.rect_emb_unit_val]; simp) (by rw [ValueKit.rect_emb_unit_val]; simp)

include hT in
theorem A_Q : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).2.2.2.2.2.1 = fun y => qn A b (0 + (y 0).val) ((y 1).val / 64) ((y 1).val % 64) * ((1 / 8 : ℝ) : EReal) := by
  have hH := A_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  refine canon_eq ?_ (View.cover_of_tiledBy _ ![512, 256] (by sl_kernel_rfl))
  unfold kernelRun0_A at hH ⊢
  dsimp only at hH ⊢
  repeat (refine pieces_cons ?_ ?_; swap)
  exact pieces_nil
  all_goals
    sl_unfold_run_values
    (try simp only [View.readAt_eq_ld, harg5.read_unread, harg6.read_unread, harg7.read_unread, harg8.read_unread, View.readCov_eq_canon', hH])
    intro x
    refine (q_piece (by norm_num) (hT.ldbd _) (h_whole _) (hT.ldw _) (hT.ldqw _) x).trans ?_
    exact at2 (fun p q => qn A b (0 + p) (q / 64) (q % 64) * ((1 / 8 : ℝ) : EReal)) (by rw [ValueKit.rect_emb_unit_val]; simp)
      (by rw [ValueKit.rect_emb_unit_val]; simp)

include hT in
theorem A_KS : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).2.1 = ksF A b 0 := by
  have hH := A_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  have hK := k_piece (s := 0) (H := fun j => h A b (0 + ((Rect.unit ![0, 0] ![512, 1024] inb_S512x1024_S512x1024_0_0 : Rect S512x1024).idx j 0).val)
    ((Rect.unit ![0, 0] ![512, 1024] inb_S512x1024_S512x1024_0_0 : Rect S512x1024).idx j 1).val) (hT.ldbd inb_S256x256_S256x256_0_0) (h_whole inb_S512x1024_S512x1024_0_0) (hT.ldw inb_S1024x2816_S1024x256_0_512)
    (hT.ldkw inb_S1x128_S1x128_0_0)
  refine canon_eq ?_ (View.cover_of_tiledBy _ ![1, 128, 128] (by sl_kernel_rfl))
  unfold kernelRun0_A at hH ⊢
  dsimp only at hH ⊢
  repeat (refine pieces_cons ?_ ?_; swap)
  exact pieces_nil
  all_goals
    sl_unfold_run_values
    (try simp only [View.readAt_eq_ld, harg5.read_unread, harg6.read_unread, harg7.read_unread, harg8.read_unread, View.readCov_eq_canon', hH])
    intro x
  · exact (zero_rows x).trans (ks_halo _ x)
  · exact ((ks_piece hK x).1).trans (ks_at (p := 0) _ x)
  · exact ((ks_piece hK x).2.1).trans (ks_at (p := 1) _ x)
  · exact ((ks_piece hK x).2.2.1).trans (ks_at (p := 2) _ x)
  · exact ((ks_piece hK x).2.2.2).trans (ks_at (p := 3) _ x)
include hT in
theorem A_VS : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).2.2.1 = vsF A b 0 := by
  have hH := A_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  have hV := v_piece (s := 0) (H := fun j => h A b (0 + ((Rect.unit ![0, 0] ![512, 1024] inb_S512x1024_S512x1024_0_0 : Rect S512x1024).idx j 0).val)
    ((Rect.unit ![0, 0] ![512, 1024] inb_S512x1024_S512x1024_0_0 : Rect S512x1024).idx j 1).val) (h_whole inb_S512x1024_S512x1024_0_0) (hT.ldw inb_S1024x2816_S1024x256_0_512)
  refine canon_eq ?_ (View.cover_of_tiledBy _ ![1, 128, 128] (by sl_kernel_rfl))
  unfold kernelRun0_A at hH ⊢
  dsimp only at hH ⊢
  repeat (refine pieces_cons ?_ ?_; swap)
  exact pieces_nil
  all_goals
    sl_unfold_run_values
    (try simp only [View.readAt_eq_ld, harg5.read_unread, harg6.read_unread, harg7.read_unread, harg8.read_unread, View.readCov_eq_canon', hH])
    intro x
  · exact (zero_rows' x).trans (vs_halo _ x)
  · exact ((vs_piece hV x).1).trans (vs_at (p := 0) _ x)
  · exact ((vs_piece hV x).2.1).trans (vs_at (p := 1) _ x)
  · exact ((vs_piece hV x).2.2.1).trans (vs_at (p := 2) _ x)
  · exact ((vs_piece hV x).2.2.2).trans (vs_at (p := 3) _ x)
  · exact ((ones_piece x).1).trans (ones_at (p := 0) _ x)
  · exact ((ones_piece x).2).trans (ones_at (p := 1) _ x)
  · exact ((ones_piece x).1).trans (ones_at (p := 2) _ x)
  · exact ((ones_piece x).2).trans (ones_at (p := 3) _ x)
include hT in
theorem A_US : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).2.2.2.1 = usF A b 0 := by
  have hH := A_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  refine canon_eq ?_ (View.cover_of_tiledBy _ ![32, 256] (by sl_kernel_rfl))
  unfold kernelRun0_A at hH ⊢
  dsimp only at hH ⊢
  repeat (refine pieces_cons ?_ ?_; swap)
  exact pieces_nil
  all_goals
    sl_unfold_run_values
    (try simp only [View.readAt_eq_ld, harg5.read_unread, harg6.read_unread, harg7.read_unread, harg8.read_unread, View.readCov_eq_canon', hH])
    intro x
  · exact (zero_rows'' x).trans (us_halo _ x)
  all_goals
    refine (u_piece (h_whole _) (hT.ldw _) (h_whole _) (hT.ldw _) x).trans ?_
    refine Eq.trans ?_ (us_at _ x)
    show _ = pr A b _ _ * Ideal.logistic (pr A b _ _)
    rw [← Nat.add_assoc, ← Nat.add_assoc]
include hT in
theorem A_GA : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).2.2.2.2.2.2.2.1 = fun y => ga A b (0 + (y 0).val) (y 1).val := by
  have hH := A_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  refine canon_eq ?_ (View.cover_of_tiledBy _ ![512, 256] (by sl_kernel_rfl))
  unfold kernelRun0_A at hH ⊢
  dsimp only at hH ⊢
  repeat (refine pieces_cons ?_ ?_; swap)
  exact pieces_nil
  all_goals
    sl_unfold_run_values
    (try simp only [View.readAt_eq_ld, harg5.read_unread, harg6.read_unread, harg7.read_unread, harg8.read_unread, View.readCov_eq_canon', hH])
    intro x
  all_goals
    refine (gate_piece (h_whole _) (hT.ldw _) x).trans ?_
    exact at2 (fun p q => silu (pr A b (0 + p) q)) (by rw [ValueKit.rect_emb_unit_val]; simp)
      (by rw [ValueKit.rect_emb_unit_val, ← Nat.add_assoc]; rfl)
include hT in
theorem A_GC : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).2.2.2.2.2.2.2.2.1 = fun y => gc A b (0 + (y 0).val) (y 1).val := by
  have hH := A_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  refine canon_eq ?_ (View.cover_of_tiledBy _ ![512, 256] (by sl_kernel_rfl))
  unfold kernelRun0_A at hH ⊢
  dsimp only at hH ⊢
  repeat (refine pieces_cons ?_ ?_; swap)
  exact pieces_nil
  all_goals
    sl_unfold_run_values
    (try simp only [View.readAt_eq_ld, harg5.read_unread, harg6.read_unread, harg7.read_unread, harg8.read_unread, View.readCov_eq_canon', hH])
    intro x
  all_goals
    refine (gate_piece (h_whole _) (hT.ldw _) x).trans ?_
    exact at2 (fun p q => silu (pr A b (0 + p) q)) (by rw [ValueKit.rect_emb_unit_val]; simp)
      (by rw [ValueKit.rect_emb_unit_val, ← Nat.add_assoc]; rfl)

end Cert.KV
-- ==== Proof.Conv.lean ====
module

public import proofs.«01_k».proof.Proof.Tile

@[expose] public section

/-! One tap of the convolution, read from the tile's buffer. -/

namespace Cert.KV

open Cert.KernelIdeal Cert.KernelIdeal.Gen Idealize.ShloMosaic Cert.Layer

variable {A : Args} {b s : ℕ}

theorem chain_succ {f : ℕ → EReal} {n : ℕ} {a t : EReal} (ha : a = chain f n) (ht : t = f n) : a + t = chain f (n + 1) := by
  rw [ha, ht]
  rfl

variable {i : grid0.Coords} {x0 : Vec Ideal S8 .f32} {x1 : Vec Ideal S1x512x1024 .f32}
    {x2 : Vec Ideal S1x1024 .f32} {x3 : Vec Ideal S1024x2816 .bf16} {x4 : Vec Ideal S1x512 .f32} {x5 : Vec Ideal S1x128 .f32}
    {x6 : Vec Ideal S256x256 .bf16} {x7 : Vec Ideal S32x512 .f32} {x8 x9 x10 : Vec Ideal S1x512 .f32}
    {x11 : Vec Ideal S1024x1024 .bf16} {x12 : Vec Ideal S2x4x256x256 .f32}

theorem chain_one {f : ℕ → EReal} {t : EReal} (ht : t = f 0) : t = chain f 1 := by
  rw [ht]
  exact (zero_add _).symm

theorem tap (hT : Tile A b s i x0 x1 x2 x3 x4 x5 x6 x7 x8 x9 x10 x11 x12) (j : Fin 32) {n S : ℕ} {hn : n < 544} {q : Fin 512}
    (h : s + n = 2 + S + j.val) :
    x7 (ix2 j q) * usF A b s (ix2 ⟨n, hn⟩ q) = A.DW j.val q.val * up A b (S + j.val) q.val := by
  refine congrArg₂ (· * ·) (hT.x7 _) ?_
  unfold usF up
  show (if s + n < 32 then 0 else uu A b (s + n - 32) q.val) = _
  by_cases hc : s + n < 32
  · rw [if_pos hc, if_pos (by omega)]
  · rw [if_neg hc, if_neg (by omega), show s + n - 32 = S + j.val - 30 by omega]

end Cert.KV
-- ==== Proof.RunACS.lean ====
module

public import proofs.«01_k».proof.Proof.RunA
public import proofs.«01_k».proof.Proof.Conv

@[expose] public section

/-! The convolution's buffer: what the buffers of the first tile of a batch hold after its body. -/

namespace Cert.KV

open Cert.KernelIdeal Cert.KernelIdeal.Gen Idealize.ShloMosaic Idealize.ShloMosaic.TcCoe Cert.Layer

variable {A : Args} {b : ℕ}

variable (c : Dev nD) (i : grid0.Coords) (arg2 : Memref sig .tc .smem S8 .f32) (harg2 : arg2.IsWhole)
  (arg3 : Memref sig .tc .vmem S1x512x1024 .f32) (harg3 : arg3.IsWhole) (arg4 : Memref sig .tc .vmem S1x1024 .f32)
  (harg4 : arg4.IsWhole) (arg5 : Memref sig .tc .vmem S1024x2816 .bf16) (harg5 : arg5.IsWhole)
  (arg6 : Memref sig .tc .vmem S1x512 .f32) (harg6 : arg6.IsWhole) (arg7 : Memref sig .tc .vmem S1x128 .f32)
  (harg7 : arg7.IsWhole) (arg8 : Memref sig .tc .vmem S256x256 .bf16) (harg8 : arg8.IsWhole)
  (arg9 : Memref sig .tc .vmem S32x512 .f32) (harg9 : arg9.IsWhole) (arg10 : Memref sig .tc .vmem S1x512 .f32)
  (harg10 : arg10.IsWhole) (arg11 : Memref sig .tc .vmem S1x512 .f32) (harg11 : arg11.IsWhole)
  (arg12 : Memref sig .tc .vmem S1x512 .f32) (harg12 : arg12.IsWhole) (arg13 : Memref sig .tc .vmem S1024x1024 .bf16)
  (harg13 : arg13.IsWhole) (arg14 : Memref sig .tc .vmem S2x4x256x256 .f32) (harg14 : arg14.IsWhole)
  (arg15 : Memref sig .tc .vmem S1x512x1024 .f32) (harg15 : arg15.IsWhole) (arg16 : Memref sig .tc .vmem S512x1024 .bf16)
  (harg16 : arg16.IsWhole) (arg17 : Memref sig .tc .vmem S512x512 .bf16) (harg17 : arg17.IsWhole)
  (arg18 : Memref sig .tc .vmem S4x640x128 .bf16) (harg18 : arg18.IsWhole) (arg19 : Memref sig .tc .vmem S4x640x256 .bf16)
  (harg19 : arg19.IsWhole) (arg20 : Memref sig .tc .vmem S544x512 .f32) (harg20 : arg20.IsWhole)
  (arg21 : Memref sig .tc .vmem S512x512 .f32) (harg21 : arg21.IsWhole) (arg22 : Memref sig .tc .vmem S512x512 .f32)
  (harg22 : arg22.IsWhole) (arg23 : Memref sig .tc .vmem S512x512 .f32) (harg23 : arg23.IsWhole)
  (arg24 : Memref sig .tc .vmem S512x1024 .bf16) (harg24 : arg24.IsWhole) (hc0 : cond0_0 i) (hc1 : ¬cond0_1 i)
  (x0 : Vec Ideal S8 .f32) (x1 : Vec Ideal S1x512x1024 .f32) (x2 : Vec Ideal S1x1024 .f32) (x3 : Vec Ideal S1024x2816 .bf16)
  (x4 : Vec Ideal S1x512 .f32) (x5 : Vec Ideal S1x128 .f32) (x6 : Vec Ideal S256x256 .bf16) (x7 : Vec Ideal S32x512 .f32)
  (x8 : Vec Ideal S1x512 .f32) (x9 : Vec Ideal S1x512 .f32) (x10 : Vec Ideal S1x512 .f32) (x11 : Vec Ideal S1024x1024 .bf16)
  (x12 : Vec Ideal S2x4x256x256 .f32)
  (hT : Tile A b 0 i x0 x1 x2 x3 x4 x5 x6 x7 x8 x9 x10 x11 x12)

set_option maxHeartbeats 4000000 in
include hT in
theorem A_CS : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).2.2.2.2.2.2.1 = fun y => cv A b (0 + (y 0).val) (y 1).val := by
  have hU := A_US c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  refine canon_eq ?_ (View.cover_of_tiledBy _ ![64, 128] (by sl_kernel_rfl))
  unfold kernelRun0_A at hU ⊢
  dsimp only at hU ⊢
  repeat (refine pieces_cons ?_ ?_; swap)
  exact pieces_nil
  all_goals
    sl_unfold_run_values
    simp only [View.readAt_eq_ld, harg9.read_unread, harg10.read_unread, View.readCov_eq_canon', hU]
    intro x
    refine Eq.trans ?_ (at2 (fun p q => cv A b (0 + p) q) (ValueKit.rect_emb_unit_val _ _ _ _ _).symm (ValueKit.rect_emb_unit_val _ _ _ _ _).symm)
    obtain ⟨r, q, rfl⟩ := ex_ix2 (m := 64) (n := 128) x
    unfold_payloads
    pointwise
    refine congrArg₂ (· + ·) ?_ (hT.x8 _)
    repeat refine chain_succ ?_ ?_
    · refine chain_one (tap hT 0 ?_)
      omega
    all_goals
      refine tap hT _ ?_
      omega

end Cert.KV
-- ==== Proof.Reads.lean ====
module

public import proofs.«01_k».proof.Proof.Tile

@[expose] public section

/-! What the attention, the layer norm and the out-projection of one tile load from the tile's buffers. -/

namespace Cert.KV

open Cert.KernelIdeal Cert.KernelIdeal.Gen Idealize.ShloMosaic Cert.Layer

variable {A : Args} {b s : ℕ}

noncomputable def qF (A : Args) (b s : ℕ) (y : S512x512.Idx) : EReal :=
  qn A b (s + (y 0).val) ((y 1).val / 64) ((y 1).val % 64) * ((1 / 8 : ℝ) : EReal)

theorem qF_eq : (fun y : S512x512.Idx => qn A b (s + (y 0).val) ((y 1).val / 64) ((y 1).val % 64) * ((1 / 8 : ℝ) : EReal)) = qF A b s := rfl

noncomputable def gaF (A : Args) (b s : ℕ) (y : S512x512.Idx) : EReal := ga A b (s + (y 0).val) (y 1).val

theorem gaF_eq : (fun y : S512x512.Idx => ga A b (s + (y 0).val) (y 1).val) = gaF A b s := rfl

noncomputable def yF (A : Args) (b s : ℕ) (y : S512x1024.Idx) : EReal := yyK A b (s + (y 0).val) (y 1).val

variable {i : grid0.Coords} {x0 : Vec Ideal S8 .f32} {x1 : Vec Ideal S1x512x1024 .f32}
    {x2 : Vec Ideal S1x1024 .f32} {x3 : Vec Ideal S1024x2816 .bf16} {x4 : Vec Ideal S1x512 .f32} {x5 : Vec Ideal S1x128 .f32}
    {x6 : Vec Ideal S256x256 .bf16} {x7 : Vec Ideal S32x512 .f32} {x8 x9 x10 : Vec Ideal S1x512 .f32}
    {x11 : Vec Ideal S1024x1024 .bf16} {x12 : Vec Ideal S2x4x256x256 .f32}

theorem q_tile {o p : ℕ} (ho : s + o = 128 * ((s + o) / 128)) (inb) (y : S128x128.Idx) :
    qF A b s ((Rect.unit (s := S512x512) ![o, p] ![128, 128] inb).idx y)
      = qn A b (128 * ((s + o) / 128) + (y 0).val) ((p + (y 1).val) / 64) ((p + (y 1).val) % 64) * ((1 / 8 : ℝ) : EReal) := by
  have h0 : ((Rect.unit (s := S512x512) ![o, p] ![128, 128] inb).idx y 0).val = o + (y 0).val := Rect.idx_unit_val _ _ _ _ _
  have h1 : ((Rect.unit (s := S512x512) ![o, p] ![128, 128] inb).idx y 1).val = p + (y 1).val := Rect.idx_unit_val _ _ _ _ _
  unfold qF
  rw [h0, h1, ← ho, Nat.add_assoc]

theorem ga_tile {o p : ℕ} (ho : s + o = 128 * ((s + o) / 128)) (inb) (y : S128x128.Idx) :
    gaF A b s ((Rect.unit (s := S512x512) ![o, p] ![128, 128] inb).idx y) = ga A b (128 * ((s + o) / 128) + (y 0).val) (p + (y 1).val) := by
  have h0 : ((Rect.unit (s := S512x512) ![o, p] ![128, 128] inb).idx y 0).val = o + (y 0).val := Rect.idx_unit_val _ _ _ _ _
  have h1 : ((Rect.unit (s := S512x512) ![o, p] ![128, 128] inb).idx y 1).val = p + (y 1).val := Rect.idx_unit_val _ _ _ _ _
  unfold gaF
  rw [h0, h1, ← ho, Nat.add_assoc]

theorem k_tile {o P g e : ℕ} (ho : s + o = 128 * ((s + o) / 128)) (hP : P = 2 * g + e) (he : e < 2) (inb) (y : S1x256x128.Idx) :
    ksF A b s ((Rect.unit (s := S4x640x128) ![P, o, 0] ![1, 256, 128] inb).idx y)
      = if (y 2).val / 64 = e then kp A b (128 * ((s + o) / 128) + (y 1).val) g ((y 2).val % 64) else 0 := by
  have h0 : ((Rect.unit (s := S4x640x128) ![P, o, 0] ![1, 256, 128] inb).idx y 0).val = 2 * g + e := by
    rw [Rect.idx_unit_val, ← hP]
    exact congrArg (P + ·) (Nat.lt_one_iff.mp (y 0).isLt)
  have h1 : ((Rect.unit (s := S4x640x128) ![P, o, 0] ![1, 256, 128] inb).idx y 1).val = o + (y 1).val := Rect.idx_unit_val _ _ _ _ _
  have h2 : ((Rect.unit (s := S4x640x128) ![P, o, 0] ![1, 256, 128] inb).idx y 2).val = (y 2).val := by
    rw [Rect.idx_unit_val]
    exact Nat.zero_add _
  unfold ksF
  rw [h0, h1, h2, ← ho, Nat.add_assoc, show (2 * g + e) % 2 = e by omega, show (2 * g + e) / 2 = g by omega]

theorem v_tile {o P g e : ℕ} (ho : s + o = 128 * ((s + o) / 128)) (hP : P = 2 * g + e) (he : e < 2) (inb) (y : S1x256x256.Idx) :
    vsF A b s ((Rect.unit (s := S4x640x256) ![P, o, 0] ![1, 256, 256] inb).idx y)
      = if (y 2).val < 128 then (if (y 2).val / 64 = e then vp A b (128 * ((s + o) / 128) + (y 1).val) g ((y 2).val % 64) else 0)
        else (if ((y 2).val - 128) / 64 = e then (if 128 * ((s + o) / 128) + (y 1).val < 128 then 0 else 1) else 0) := by
  have h0 : ((Rect.unit (s := S4x640x256) ![P, o, 0] ![1, 256, 256] inb).idx y 0).val = 2 * g + e := by
    rw [Rect.idx_unit_val, ← hP]
    exact congrArg (P + ·) (Nat.lt_one_iff.mp (y 0).isLt)
  have h1 : ((Rect.unit (s := S4x640x256) ![P, o, 0] ![1, 256, 256] inb).idx y 1).val = o + (y 1).val := Rect.idx_unit_val _ _ _ _ _
  have h2 : ((Rect.unit (s := S4x640x256) ![P, o, 0] ![1, 256, 256] inb).idx y 2).val = (y 2).val := by
    rw [Rect.idx_unit_val]
    exact Nat.zero_add _
  unfold vsF
  rw [h0, h1, h2, ← ho, Nat.add_assoc, show (2 * g + e) % 2 = e by omega, show (2 * g + e) / 2 = g by omega]

theorem b_tile (hT : Tile A b s i x0 x1 x2 x3 x4 x5 x6 x7 x8 x9 x10 x11 x12) {o P g e : ℕ} (ho : s + o = 128 * ((s + o) / 128))
    (hP : P = 2 * g + e) (he : e < 2) {off : Fin 4 → ℕ} (hoff : off = ![if s + o = 0 then 1 else 0, P, 0, 0]) (inb) (y : S1x1x256x256.Idx) :
    View.ld x12 (Rect.unit off ![1, 1, 256, 256] inb) y
      = A.BT (decide ((s + o) / 128 = 0)) (4 * g + 2 * ((y 2).val / 128) + e) ((y 2).val % 128) (y 3).val := by
  subst hoff
  refine (hT.x12 _).trans ?_
  have h0 : ((Rect.unit (s := S2x4x256x256) ![if s + o = 0 then 1 else 0, P, 0, 0] ![1, 1, 256, 256] inb).idx y 0).val = if s + o = 0 then 1 else 0 := by
    rw [Rect.idx_unit_val]
    exact congrArg ((if s + o = 0 then 1 else 0) + ·) (Nat.lt_one_iff.mp (y 0).isLt)
  have h1 : ((Rect.unit (s := S2x4x256x256) ![if s + o = 0 then 1 else 0, P, 0, 0] ![1, 1, 256, 256] inb).idx y 1).val = 2 * g + e := by
    rw [Rect.idx_unit_val, ← hP]
    exact congrArg (P + ·) (Nat.lt_one_iff.mp (y 1).isLt)
  have h2 : ((Rect.unit (s := S2x4x256x256) ![if s + o = 0 then 1 else 0, P, 0, 0] ![1, 1, 256, 256] inb).idx y 2).val = (y 2).val := by
    rw [Rect.idx_unit_val]
    exact Nat.zero_add _
  have h3 : ((Rect.unit (s := S2x4x256x256) ![if s + o = 0 then 1 else 0, P, 0, 0] ![1, 1, 256, 256] inb).idx y 3).val = (y 3).val := by
    rw [Rect.idx_unit_val]
    exact Nat.zero_add _
  rw [h0, h1, h2, h3, show (2 * g + e) / 2 = g by omega, show (2 * g + e) % 2 = e by omega]
  have hd : decide ((if s + o = 0 then 1 else 0) = 1) = decide ((s + o) / 128 = 0) := by
    by_cases h : s + o = 0
    · simp [h]
    · rw [if_neg h]
      have : ¬ (s + o) / 128 = 0 := by omega
      simp [this]
  rw [hd]

theorem group (hT : Tile A b s i x0 x1 x2 x3 x4 x5 x6 x7 x8 x9 x10 x11 x12) {o p P0 P1 : ℕ} (ho : o % 128 = 0) (hp : p = 256 * (p / 256))
    (hp' : p / 256 < 2) (h0 : P0 = 2 * (p / 256) + 0) (h1 : P1 = 2 * (p / 256) + 1) {off0 off1 : Fin 4 → ℕ}
    (hf0 : off0 = ![if s + o = 0 then 1 else 0, P0, 0, 0]) (hf1 : off1 = ![if s + o = 0 then 1 else 0, P1, 0, 0])
    {i0 i1 i2 i3 i4 i5 i6 i7} :
    Group A b ((s + o) / 128) (p / 256) (fun j => qF A b s ((Rect.unit (s := S512x512) ![o, p] ![128, 128] i0).idx j))
      (fun j => qF A b s ((Rect.unit (s := S512x512) ![o, p + 128] ![128, 128] i1).idx j))
      (fun j => ksF A b s ((Rect.unit (s := S4x640x128) ![P0, o, 0] ![1, 256, 128] i2).idx j))
      (fun j => ksF A b s ((Rect.unit (s := S4x640x128) ![P1, o, 0] ![1, 256, 128] i3).idx j))
      (View.ld x12 (Rect.unit off0 ![1, 1, 256, 256] i4)) (View.ld x12 (Rect.unit off1 ![1, 1, 256, 256] i5))
      (fun j => vsF A b s ((Rect.unit (s := S4x640x256) ![P0, o, 0] ![1, 256, 256] i6).idx j))
      (fun j => vsF A b s ((Rect.unit (s := S4x640x256) ![P1, o, 0] ![1, 256, 256] i7).idx j)) := by
  have hs : s + o = 128 * ((s + o) / 128) := by have := hT.dvd; omega
  refine ⟨hp', fun y => ?_, fun y => ?_, k_tile hs h0 (by omega) _, k_tile hs h1 (by omega) _, b_tile hT hs h0 (by omega) hf0 _,
    b_tile hT hs h1 (by omega) hf1 _, v_tile hs h0 (by omega) _, v_tile hs h1 (by omega) _⟩
  · rw [← hp]
    exact q_tile hs _ y
  · rw [← hp]
    exact q_tile hs _ y

/-- The attention's columns of the out-projection's input. -/
theorem ya_at (hT : Tile A b s i x0 x1 x2 x3 x4 x5 x6 x7 x8 x9 x10 x11 x12) {o c : ℕ} (ho : o % 128 = 0) (hc : c + 128 ≤ 512) (inb) (x : S128x128.Idx) :
    yaK A b (128 * ((s + o) / 128) + (x 0).val) (c + (x 1).val)
      = yF A b s ((Rect.unit (s := S512x1024) ![o, c] ![128, 128] inb).emb x) := by
  have hs : s + o = 128 * ((s + o) / 128) := by have := hT.dvd; omega
  have h0 : ((Rect.unit (s := S512x1024) ![o, c] ![128, 128] inb).emb x 0).val = o + (x 0).val := ValueKit.rect_emb_unit_val _ _ _ _ _
  have h1 : ((Rect.unit (s := S512x1024) ![o, c] ![128, 128] inb).emb x 1).val = c + (x 1).val := ValueKit.rect_emb_unit_val _ _ _ _ _
  have hx : (x 1).val < 128 := (x 1).isLt
  unfold yF yyK
  rw [h0, h1, if_pos (by omega), ← hs, Nat.add_assoc]

/-- A chunk of 64 rows of a buffer. -/
theorem rows64 (f : ℕ → ℕ → EReal) {o : ℕ} (inb) (y : S64x512.Idx) :
    f (s + ((Rect.unit (s := S512x512) ![o, 0] ![64, 512] inb).idx y 0).val) ((Rect.unit (s := S512x512) ![o, 0] ![64, 512] inb).idx y 1).val
      = f (s + o + (y 0).val) (y 1).val := by
  rw [Rect.idx_unit_val, Rect.idx_unit_val]
  exact at2 f (Nat.add_assoc _ _ _).symm (Nat.zero_add _)

/-- The convolution's columns of the out-projection's input. -/
theorem yc_at {o : ℕ} (inb) (x : S64x512.Idx) :
    yc A b (s + o + (x 0).val) (x 1).val = yF A b s ((Rect.unit (s := S512x1024) ![o, 512] ![64, 512] inb).emb x) := by
  have h0 : ((Rect.unit (s := S512x1024) ![o, 512] ![64, 512] inb).emb x 0).val = o + (x 0).val := ValueKit.rect_emb_unit_val _ _ _ _ _
  have h1 : ((Rect.unit (s := S512x1024) ![o, 512] ![64, 512] inb).emb x 1).val = 512 + (x 1).val := ValueKit.rect_emb_unit_val _ _ _ _ _
  unfold yF yyK
  rw [h0, h1, if_neg (by omega), Nat.add_sub_cancel_left, Nat.add_assoc]

/-- The out-projection's input, loaded whole. -/
theorem y_whole (inb) (y : S512x1024.Idx) :
    yF A b s ((Rect.unit ![0, 0] ![512, 1024] inb : Rect S512x1024).idx y) = yyK A b (s + (y 0).val) (y 1).val := by
  unfold yF
  rw [Rect.idx_unit_val, Rect.idx_unit_val]
  exact at2 (fun p q => yyK A b (s + p) q) (Nat.zero_add _) (Nat.zero_add _)

/-- The result's columns. -/
theorem out_at {o : ℕ} (inb) (x : S1x512x256.Idx) :
    outK A b (s + (x 1).val) (o + (x 2).val)
      = outK A b (s + ((Rect.unit (s := S1x512x1024) ![0, 0, o] ![1, 512, 256] inb).emb x 1).val)
          ((Rect.unit (s := S1x512x1024) ![0, 0, o] ![1, 512, 256] inb).emb x 2).val := by
  rw [ValueKit.rect_emb_unit_val, ValueKit.rect_emb_unit_val]
  exact at2 (fun p q => outK A b (s + p) q) (Nat.zero_add _).symm rfl

end Cert.KV
-- ==== Proof.RunAY.lean ====
module

public import proofs.«01_k».proof.Proof.RunACS
public import proofs.«01_k».proof.Proof.Reads
public import proofs.«01_k».proof.Proof.Att

@[expose] public section

/-! The out-projection's input and the result: what the buffers of the first tile of a batch hold after its body. -/

namespace Cert.KV

open Cert.KernelIdeal Cert.KernelIdeal.Gen Idealize.ShloMosaic Idealize.ShloMosaic.TcCoe Cert.Layer

variable {A : Args} {b : ℕ}

variable (c : Dev nD) (i : grid0.Coords) (arg2 : Memref sig .tc .smem S8 .f32) (harg2 : arg2.IsWhole)
  (arg3 : Memref sig .tc .vmem S1x512x1024 .f32) (harg3 : arg3.IsWhole) (arg4 : Memref sig .tc .vmem S1x1024 .f32)
  (harg4 : arg4.IsWhole) (arg5 : Memref sig .tc .vmem S1024x2816 .bf16) (harg5 : arg5.IsWhole)
  (arg6 : Memref sig .tc .vmem S1x512 .f32) (harg6 : arg6.IsWhole) (arg7 : Memref sig .tc .vmem S1x128 .f32)
  (harg7 : arg7.IsWhole) (arg8 : Memref sig .tc .vmem S256x256 .bf16) (harg8 : arg8.IsWhole)
  (arg9 : Memref sig .tc .vmem S32x512 .f32) (harg9 : arg9.IsWhole) (arg10 : Memref sig .tc .vmem S1x512 .f32)
  (harg10 : arg10.IsWhole) (arg11 : Memref sig .tc .vmem S1x512 .f32) (harg11 : arg11.IsWhole)
  (arg12 : Memref sig .tc .vmem S1x512 .f32) (harg12 : arg12.IsWhole) (arg13 : Memref sig .tc .vmem S1024x1024 .bf16)
  (harg13 : arg13.IsWhole) (arg14 : Memref sig .tc .vmem S2x4x256x256 .f32) (harg14 : arg14.IsWhole)
  (arg15 : Memref sig .tc .vmem S1x512x1024 .f32) (harg15 : arg15.IsWhole) (arg16 : Memref sig .tc .vmem S512x1024 .bf16)
  (harg16 : arg16.IsWhole) (arg17 : Memref sig .tc .vmem S512x512 .bf16) (harg17 : arg17.IsWhole)
  (arg18 : Memref sig .tc .vmem S4x640x128 .bf16) (harg18 : arg18.IsWhole) (arg19 : Memref sig .tc .vmem S4x640x256 .bf16)
  (harg19 : arg19.IsWhole) (arg20 : Memref sig .tc .vmem S544x512 .f32) (harg20 : arg20.IsWhole)
  (arg21 : Memref sig .tc .vmem S512x512 .f32) (harg21 : arg21.IsWhole) (arg22 : Memref sig .tc .vmem S512x512 .f32)
  (harg22 : arg22.IsWhole) (arg23 : Memref sig .tc .vmem S512x512 .f32) (harg23 : arg23.IsWhole)
  (arg24 : Memref sig .tc .vmem S512x1024 .bf16) (harg24 : arg24.IsWhole) (hc0 : cond0_0 i) (hc1 : ¬cond0_1 i)
  (x0 : Vec Ideal S8 .f32) (x1 : Vec Ideal S1x512x1024 .f32) (x2 : Vec Ideal S1x1024 .f32) (x3 : Vec Ideal S1024x2816 .bf16)
  (x4 : Vec Ideal S1x512 .f32) (x5 : Vec Ideal S1x128 .f32) (x6 : Vec Ideal S256x256 .bf16) (x7 : Vec Ideal S32x512 .f32)
  (x8 : Vec Ideal S1x512 .f32) (x9 : Vec Ideal S1x512 .f32) (x10 : Vec Ideal S1x512 .f32) (x11 : Vec Ideal S1024x1024 .bf16)
  (x12 : Vec Ideal S2x4x256x256 .f32)
  (hT : Tile A b 0 i x0 x1 x2 x3 x4 x5 x6 x7 x8 x9 x10 x11 x12)

set_option maxHeartbeats 4000000 in
include hT in
theorem A_Y : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).2.2.2.2.2.2.2.2.2.1 = yF A b 0 := by
  have hf := hT.first.mpr rfl
  have o1 : k0_off1 i = ![if 0 + 0 = 0 then 1 else 0, 0, 0, 0] := (k0_off1_eq i).trans (by rw [if_pos hf]; rfl)
  have o2 : k0_off2 i = ![if 0 + 0 = 0 then 1 else 0, 1, 0, 0] := (k0_off2_eq i).trans (by rw [if_pos hf]; rfl)
  have o3 : k0_off3 i = ![if 0 + 0 = 0 then 1 else 0, 2, 0, 0] := (k0_off3_eq i).trans (by rw [if_pos hf]; rfl)
  have o4 : k0_off4 i = ![if 0 + 0 = 0 then 1 else 0, 3, 0, 0] := (k0_off4_eq i).trans (by rw [if_pos hf]; rfl)
  have hQ := (A_Q c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT).trans qF_eq
  have hK := A_KS c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  have hV := A_VS c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  have hC := A_CS c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  have hA := (A_GA c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT).trans gaF_eq
  have hG := A_GC c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  refine canon_eq ?_ (View.cover_of_tiledBy _ ![64, 128] (by sl_kernel_rfl))
  unfold kernelRun0_A at hQ hK hV hC hA hG ⊢
  dsimp only at hQ hK hV hC hA hG ⊢
  repeat (refine pieces_cons ?_ ?_; swap)
  exact pieces_nil
  all_goals
    sl_unfold_run_values
    simp only [View.readAt_eq_ld, harg2.read_unread, harg11.read_unread, harg12.read_unread, harg14.read_unread, View.readCov_eq_canon', hQ, hK, hV, hC, hA, hG]
    intro x
  iterate 8
    · refine (ln_piece (rows64 (cv A b) _) (hT.ldlw _) (hT.ldlb _) (rows64 (gc A b) _) x).trans ?_
      exact yc_at _ x
  · refine (att0 (group hT (by norm_num) (by norm_num) (by norm_num) (by norm_num) (by norm_num) o1 o2)
      (hT.ldsk _ _) (hT.ldsk _ _) (ga_tile (by norm_num) _) x).trans ?_
    exact ya_at hT (c := 256 * (_ / 256)) (by norm_num) (by norm_num) _ x
  · refine (att1 (group hT (by norm_num) (by norm_num) (by norm_num) (by norm_num) (by norm_num) o1 o2)
      (hT.ldsk _ _) (hT.ldsk _ _) (ga_tile (by norm_num) _) x).trans ?_
    exact ya_at hT (c := 256 * (_ / 256) + 128) (by norm_num) (by norm_num) _ x
  · refine (att0 (group hT (by norm_num) (by norm_num) (by norm_num) (by norm_num) (by norm_num) o3 o4)
      (hT.ldsk _ _) (hT.ldsk _ _) (ga_tile (by norm_num) _) x).trans ?_
    exact ya_at hT (c := 256 * (_ / 256)) (by norm_num) (by norm_num) _ x
  · refine (att1 (group hT (by norm_num) (by norm_num) (by norm_num) (by norm_num) (by norm_num) o3 o4)
      (hT.ldsk _ _) (hT.ldsk _ _) (ga_tile (by norm_num) _) x).trans ?_
    exact ya_at hT (c := 256 * (_ / 256) + 128) (by norm_num) (by norm_num) _ x
  iterate 6
    · refine (att0 (group hT (by norm_num) (by norm_num) (by norm_num) (by norm_num) (by norm_num) rfl rfl)
        (hT.ldsk _ _) (hT.ldsk _ _) (ga_tile (by norm_num) _) x).trans ?_
      exact ya_at hT (c := 256 * (_ / 256)) (by norm_num) (by norm_num) _ x
    · refine (att1 (group hT (by norm_num) (by norm_num) (by norm_num) (by norm_num) (by norm_num) rfl rfl)
        (hT.ldsk _ _) (hT.ldsk _ _) (ga_tile (by norm_num) _) x).trans ?_
      exact ya_at hT (c := 256 * (_ / 256) + 128) (by norm_num) (by norm_num) _ x

set_option maxHeartbeats 4000000 in
include hT in
theorem A_L13 : View.canon (Val := Elt Ideal)
      (kernelRun0_A (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12).1 = fun y => outK A b (0 + (y 1).val) (y 2).val := by
  have hY := A_Y c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 hT
  refine canon_eq ?_ (View.cover_of_tiledL _ S1x512x256.size (by sl_kernel_rfl))
  unfold kernelRun0_A at hY ⊢
  dsimp only at hY ⊢
  repeat (refine pieces_cons ?_ ?_; swap)
  exact pieces_nil
  all_goals
    sl_unfold_run_values
    simp only [View.readAt_eq_ld, harg3.read_unread, harg13.read_unread, View.readCov_eq_canon', hY]
    intro x
    refine (out_piece (hT.ldx' _) (y_whole _) (hT.ldwo _) x).trans ?_
    exact out_at _ x

end Cert.KV
-- ==== Proof.Halo.lean ====
module

public import proofs.«01_k».proof.Proof.Tile

@[expose] public section

/-! What a tile copies from the buffers the tile before it left: the rows its windows reach back to. -/

namespace Cert.KV

open Cert.KernelIdeal Cert.KernelIdeal.Gen Idealize.ShloMosaic Cert.Layer

variable {A : Args} {b s s0 : ℕ}

theorem ks_copy {xs : Vec Ideal S4x640x128 .bf16} (hx : xs = ksF A b s0) (hs : s = s0 + 512) (inb inb') (x : S4x128x128.Idx) :
    k0_pay5 (F := Ideal) (View.ld xs (Rect.unit (s := S4x640x128) ![0, 512, 0] ![4, 128, 128] inb)) x
      = ksF A b s ((Rect.unit (s := S4x640x128) ![0, 0, 0] ![4, 128, 128] inb').emb x) := by
  subst hx hs
  have e : k0_pay5 (F := Ideal) (View.ld (ksF A b s0 : Vec Ideal S4x640x128 .bf16) (Rect.unit (s := S4x640x128) ![0, 512, 0] ![4, 128, 128] inb)) x
      = ksF A b s0 ((Rect.unit (s := S4x640x128) ![0, 512, 0] ![4, 128, 128] inb).idx x) := by
    obtain ⟨a, r, c, rfl⟩ := ex_ix3 x
    unfold_payloads
    pointwise
  refine e.trans ?_
  unfold ksF
  simp only [Rect.idx_unit_val, ValueKit.rect_emb_unit_val]
  show (if (0 + (x 2).val) / 64 = (0 + (x 0).val) % 2 then kp A b (s0 + (512 + (x 1).val)) ((0 + (x 0).val) / 2) ((0 + (x 2).val) % 64) else 0)
    = (if (0 + (x 2).val) / 64 = (0 + (x 0).val) % 2 then kp A b (s0 + 512 + (0 + (x 1).val)) ((0 + (x 0).val) / 2) ((0 + (x 2).val) % 64) else 0)
  rw [show s0 + (512 + (x 1).val) = s0 + 512 + (0 + (x 1).val) by omega]

theorem vs_copy {xs : Vec Ideal S4x640x256 .bf16} (hx : xs = vsF A b s0) (hs : s = s0 + 512) (inb inb') (x : S4x128x256.Idx) :
    k0_pay6 (F := Ideal) (View.ld xs (Rect.unit (s := S4x640x256) ![0, 512, 0] ![4, 128, 256] inb)) x
      = vsF A b s ((Rect.unit (s := S4x640x256) ![0, 0, 0] ![4, 128, 256] inb').emb x) := by
  subst hx hs
  have e : k0_pay6 (F := Ideal) (View.ld (vsF A b s0 : Vec Ideal S4x640x256 .bf16) (Rect.unit (s := S4x640x256) ![0, 512, 0] ![4, 128, 256] inb)) x
      = vsF A b s0 ((Rect.unit (s := S4x640x256) ![0, 512, 0] ![4, 128, 256] inb).idx x) := by
    obtain ⟨a, r, c, rfl⟩ := ex_ix3 x
    unfold_payloads
    pointwise
  refine e.trans ?_
  have h1 : ((Rect.unit (s := S4x640x256) ![0, 512, 0] ![4, 128, 256] inb).idx x 1).val = 512 + (x 1).val := Rect.idx_unit_val _ _ _ _ _
  have h2 : ((Rect.unit (s := S4x640x256) ![0, 0, 0] ![4, 128, 256] inb').emb x 1).val = 0 + (x 1).val := ValueKit.rect_emb_unit_val _ _ _ _ _
  unfold vsF
  rw [h1, h2, show s0 + (512 + (x 1).val) = s0 + 512 + (0 + (x 1).val) by omega]
  rfl

theorem us_copy {xs : Vec Ideal S544x512 .f32} (hx : xs = usF A b s0) (hs : s = s0 + 512) (inb inb') (x : S32x512.Idx) :
    k0_pay7 (F := Ideal) (View.ld xs (Rect.unit (s := S544x512) ![512, 0] ![32, 512] inb)) x
      = usF A b s ((Rect.unit (s := S544x512) ![0, 0] ![32, 512] inb').emb x) := by
  subst hx hs
  have e : k0_pay7 (F := Ideal) (View.ld (usF A b s0 : Vec Ideal S544x512 .f32) (Rect.unit (s := S544x512) ![512, 0] ![32, 512] inb)) x
      = usF A b s0 ((Rect.unit (s := S544x512) ![512, 0] ![32, 512] inb).idx x) := by
    obtain ⟨r, c, rfl⟩ := ex_ix2 x
    unfold_payloads
    pointwise
  refine e.trans ?_
  have h1 : ((Rect.unit (s := S544x512) ![512, 0] ![32, 512] inb).idx x 0).val = 512 + (x 0).val := Rect.idx_unit_val _ _ _ _ _
  have h2 : ((Rect.unit (s := S544x512) ![0, 0] ![32, 512] inb').emb x 0).val = 0 + (x 0).val := ValueKit.rect_emb_unit_val _ _ _ _ _
  unfold usF
  rw [h1, h2, show s0 + (512 + (x 0).val) = s0 + 512 + (0 + (x 0).val) by omega]
  rfl

end Cert.KV
-- ==== Proof.RunB.lean ====
module

public import proofs.«01_k».proof.Proof.Halo
public import proofs.«01_k».proof.Proof.Gen.KernelIdeal.Frame

@[expose] public section

/-! What the buffers of a later tile of a batch hold after its body. -/

namespace Cert.KV

open Cert.KernelIdeal Cert.KernelIdeal.Gen Idealize.ShloMosaic Idealize.ShloMosaic.TcCoe Cert.Layer

variable {A : Args} {b s s0 : ℕ}

variable (c : Dev nD) (i : grid0.Coords) (arg2 : Memref sig .tc .smem S8 .f32) (harg2 : arg2.IsWhole)
  (arg3 : Memref sig .tc .vmem S1x512x1024 .f32) (harg3 : arg3.IsWhole) (arg4 : Memref sig .tc .vmem S1x1024 .f32)
  (harg4 : arg4.IsWhole) (arg5 : Memref sig .tc .vmem S1024x2816 .bf16) (harg5 : arg5.IsWhole)
  (arg6 : Memref sig .tc .vmem S1x512 .f32) (harg6 : arg6.IsWhole) (arg7 : Memref sig .tc .vmem S1x128 .f32)
  (harg7 : arg7.IsWhole) (arg8 : Memref sig .tc .vmem S256x256 .bf16) (harg8 : arg8.IsWhole)
  (arg9 : Memref sig .tc .vmem S32x512 .f32) (harg9 : arg9.IsWhole) (arg10 : Memref sig .tc .vmem S1x512 .f32)
  (harg10 : arg10.IsWhole) (arg11 : Memref sig .tc .vmem S1x512 .f32) (harg11 : arg11.IsWhole)
  (arg12 : Memref sig .tc .vmem S1x512 .f32) (harg12 : arg12.IsWhole) (arg13 : Memref sig .tc .vmem S1024x1024 .bf16)
  (harg13 : arg13.IsWhole) (arg14 : Memref sig .tc .vmem S2x4x256x256 .f32) (harg14 : arg14.IsWhole)
  (arg15 : Memref sig .tc .vmem S1x512x1024 .f32) (harg15 : arg15.IsWhole) (arg16 : Memref sig .tc .vmem S512x1024 .bf16)
  (harg16 : arg16.IsWhole) (arg17 : Memref sig .tc .vmem S512x512 .bf16) (harg17 : arg17.IsWhole)
  (arg18 : Memref sig .tc .vmem S4x640x128 .bf16) (harg18 : arg18.IsWhole) (arg19 : Memref sig .tc .vmem S4x640x256 .bf16)
  (harg19 : arg19.IsWhole) (arg20 : Memref sig .tc .vmem S544x512 .f32) (harg20 : arg20.IsWhole)
  (arg21 : Memref sig .tc .vmem S512x512 .f32) (harg21 : arg21.IsWhole) (arg22 : Memref sig .tc .vmem S512x512 .f32)
  (harg22 : arg22.IsWhole) (arg23 : Memref sig .tc .vmem S512x512 .f32) (harg23 : arg23.IsWhole)
  (arg24 : Memref sig .tc .vmem S512x1024 .bf16) (harg24 : arg24.IsWhole) (hc0 : ¬cond0_0 i) (hc1 : cond0_1 i)
  (x0 : Vec Ideal S8 .f32) (x1 : Vec Ideal S1x512x1024 .f32) (x2 : Vec Ideal S1x1024 .f32) (x3 : Vec Ideal S1024x2816 .bf16)
  (x4 : Vec Ideal S1x512 .f32) (x5 : Vec Ideal S1x128 .f32) (x6 : Vec Ideal S256x256 .bf16) (x7 : Vec Ideal S32x512 .f32)
  (x8 : Vec Ideal S1x512 .f32) (x9 : Vec Ideal S1x512 .f32) (x10 : Vec Ideal S1x512 .f32) (x11 : Vec Ideal S1024x1024 .bf16)
  (x12 : Vec Ideal S2x4x256x256 .f32)
  (xs2 : Vec Ideal S4x640x128 .bf16) (xs3 : Vec Ideal S4x640x256 .bf16) (xs4 : Vec Ideal S544x512 .f32)
  (h2 : xs2 = ksF A b s0) (h3 : xs3 = vsF A b s0) (h4 : xs4 = usF A b s0) (hs : s = s0 + 512)
  (hT : Tile A b s i x0 x1 x2 x3 x4 x5 x6 x7 x8 x9 x10 x11 x12)

include h2 h3 h4 hs hT in
theorem B_H : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).2.2.2.2.1 = fun y => h A b (s + (y 0).val) (y 1).val := by
  refine canon_eq ?_ (View.cover_of_tiledBy _ ![64, 1024] (by sl_kernel_rfl))
  unfold kernelRun0_B
  dsimp only
  repeat (refine pieces_cons ?_ ?_; swap)
  exact pieces_nil
  all_goals
    sl_unfold_run_values
    (try simp only [View.readAt_eq_ld, harg3.read_unread, harg4.read_unread])
    intro x
    refine (h_piece (hT.ldx _) (hT.ldnw _) x).trans ?_
    exact at2 _ (by rw [ValueKit.rect_emb_unit_val]; exact Nat.add_assoc _ _ _) (by rw [ValueKit.rect_emb_unit_val]; simp)

include h2 h3 h4 hs hT in
theorem B_Q : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).2.2.2.2.2.1 = fun y => qn A b (s + (y 0).val) ((y 1).val / 64) ((y 1).val % 64) * ((1 / 8 : ℝ) : EReal) := by
  have hH := B_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  refine canon_eq ?_ (View.cover_of_tiledBy _ ![512, 256] (by sl_kernel_rfl))
  unfold kernelRun0_B at hH ⊢
  dsimp only at hH ⊢
  repeat (refine pieces_cons ?_ ?_; swap)
  exact pieces_nil
  all_goals
    sl_unfold_run_values
    (try simp only [View.readAt_eq_ld, harg5.read_unread, harg6.read_unread, harg7.read_unread, harg8.read_unread, View.readCov_eq_canon', hH])
    intro x
    refine (q_piece (by norm_num) (hT.ldbd _) (h_whole _) (hT.ldw _) (hT.ldqw _) x).trans ?_
    exact at2 (fun p q => qn A b (s + p) (q / 64) (q % 64) * ((1 / 8 : ℝ) : EReal)) (by rw [ValueKit.rect_emb_unit_val]; simp)
      (by rw [ValueKit.rect_emb_unit_val]; simp)

include h2 h3 h4 hs hT in
theorem B_KS : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).2.1 = ksF A b s := by
  have hH := B_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  have hK := k_piece (s := s) (H := fun j => h A b (s + ((Rect.unit ![0, 0] ![512, 1024] inb_S512x1024_S512x1024_0_0 : Rect S512x1024).idx j 0).val)
    ((Rect.unit ![0, 0] ![512, 1024] inb_S512x1024_S512x1024_0_0 : Rect S512x1024).idx j 1).val) (hT.ldbd inb_S256x256_S256x256_0_0) (h_whole inb_S512x1024_S512x1024_0_0) (hT.ldw inb_S1024x2816_S1024x256_0_512)
    (hT.ldkw inb_S1x128_S1x128_0_0)
  refine canon_eq ?_ (View.cover_of_tiledBy _ ![1, 128, 128] (by sl_kernel_rfl))
  unfold kernelRun0_B at hH ⊢
  dsimp only at hH ⊢
  repeat (refine pieces_cons ?_ ?_; swap)
  exact pieces_nil
  all_goals
    sl_unfold_run_values
    (try simp only [View.readAt_eq_ld, harg18.read_unread, harg19.read_unread, harg20.read_unread, harg5.read_unread, harg6.read_unread, harg7.read_unread, harg8.read_unread, View.readCov_eq_canon', hH])
    intro x
  · exact ks_copy h2 hs _ _ x
  · exact ((ks_piece hK x).1).trans (ks_at (p := 0) _ x)
  · exact ((ks_piece hK x).2.1).trans (ks_at (p := 1) _ x)
  · exact ((ks_piece hK x).2.2.1).trans (ks_at (p := 2) _ x)
  · exact ((ks_piece hK x).2.2.2).trans (ks_at (p := 3) _ x)
include h2 h3 h4 hs hT in
theorem B_VS : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).2.2.1 = vsF A b s := by
  have hH := B_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  have hV := v_piece (A := A) (b := b) (s := s) (H := fun j => h A b (s + ((Rect.unit ![0, 0] ![512, 1024] inb_S512x1024_S512x1024_0_0 : Rect S512x1024).idx j 0).val)
    ((Rect.unit ![0, 0] ![512, 1024] inb_S512x1024_S512x1024_0_0 : Rect S512x1024).idx j 1).val) (h_whole inb_S512x1024_S512x1024_0_0) (hT.ldw inb_S1024x2816_S1024x256_0_512)
  refine canon_eq ?_ (View.cover_of_tiledBy _ ![1, 128, 128] (by sl_kernel_rfl))
  unfold kernelRun0_B at hH ⊢
  dsimp only at hH ⊢
  repeat (refine pieces_cons ?_ ?_; swap)
  exact pieces_nil
  all_goals
    sl_unfold_run_values
    (try simp only [View.readAt_eq_ld, harg18.read_unread, harg19.read_unread, harg20.read_unread, harg5.read_unread, harg6.read_unread, harg7.read_unread, harg8.read_unread, View.readCov_eq_canon', hH])
    intro x
  · exact vs_copy h3 hs _ _ x
  · exact ((vs_piece hV x).1).trans (vs_at (p := 0) _ x)
  · exact ((vs_piece hV x).2.1).trans (vs_at (p := 1) _ x)
  · exact ((vs_piece hV x).2.2.1).trans (vs_at (p := 2) _ x)
  · exact ((vs_piece hV x).2.2.2).trans (vs_at (p := 3) _ x)
  · exact ((ones_piece x).1).trans (ones_at (p := 0) _ x)
  · exact ((ones_piece x).2).trans (ones_at (p := 1) _ x)
  · exact ((ones_piece x).1).trans (ones_at (p := 2) _ x)
  · exact ((ones_piece x).2).trans (ones_at (p := 3) _ x)
include h2 h3 h4 hs hT in
theorem B_US : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).2.2.2.1 = usF A b s := by
  have hH := B_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  refine canon_eq ?_ (View.cover_of_tiledBy _ ![32, 256] (by sl_kernel_rfl))
  unfold kernelRun0_B at hH ⊢
  dsimp only at hH ⊢
  repeat (refine pieces_cons ?_ ?_; swap)
  exact pieces_nil
  all_goals
    sl_unfold_run_values
    (try simp only [View.readAt_eq_ld, harg18.read_unread, harg19.read_unread, harg20.read_unread, harg5.read_unread, harg6.read_unread, harg7.read_unread, harg8.read_unread, View.readCov_eq_canon', hH])
    intro x
  · exact us_copy h4 hs _ _ x
  all_goals
    refine (u_piece (h_whole _) (hT.ldw _) (h_whole _) (hT.ldw _) x).trans ?_
    refine Eq.trans ?_ (us_at _ x)
    show _ = pr A b _ _ * Ideal.logistic (pr A b _ _)
    rw [← Nat.add_assoc, ← Nat.add_assoc]
include h2 h3 h4 hs hT in
theorem B_GA : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).2.2.2.2.2.2.2.1 = fun y => ga A b (s + (y 0).val) (y 1).val := by
  have hH := B_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  refine canon_eq ?_ (View.cover_of_tiledBy _ ![512, 256] (by sl_kernel_rfl))
  unfold kernelRun0_B at hH ⊢
  dsimp only at hH ⊢
  repeat (refine pieces_cons ?_ ?_; swap)
  exact pieces_nil
  all_goals
    sl_unfold_run_values
    (try simp only [View.readAt_eq_ld, harg5.read_unread, harg6.read_unread, harg7.read_unread, harg8.read_unread, View.readCov_eq_canon', hH])
    intro x
  all_goals
    refine (gate_piece (h_whole _) (hT.ldw _) x).trans ?_
    exact at2 (fun p q => silu (pr A b (s + p) q)) (by rw [ValueKit.rect_emb_unit_val]; simp)
      (by rw [ValueKit.rect_emb_unit_val, ← Nat.add_assoc]; rfl)
include h2 h3 h4 hs hT in
theorem B_GC : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).2.2.2.2.2.2.2.2.1 = fun y => gc A b (s + (y 0).val) (y 1).val := by
  have hH := B_H c i arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  refine canon_eq ?_ (View.cover_of_tiledBy _ ![512, 256] (by sl_kernel_rfl))
  unfold kernelRun0_B at hH ⊢
  dsimp only at hH ⊢
  repeat (refine pieces_cons ?_ ?_; swap)
  exact pieces_nil
  all_goals
    sl_unfold_run_values
    (try simp only [View.readAt_eq_ld, harg5.read_unread, harg6.read_unread, harg7.read_unread, harg8.read_unread, View.readCov_eq_canon', hH])
    intro x
  all_goals
    refine (gate_piece (h_whole _) (hT.ldw _) x).trans ?_
    exact at2 (fun p q => silu (pr A b (s + p) q)) (by rw [ValueKit.rect_emb_unit_val]; simp)
      (by rw [ValueKit.rect_emb_unit_val, ← Nat.add_assoc]; rfl)

end Cert.KV
-- ==== Proof.RunBCS.lean ====
module

public import proofs.«01_k».proof.Proof.RunB
public import proofs.«01_k».proof.Proof.Conv

@[expose] public section

/-! The convolution's buffer: what the buffers of a later tile of a batch hold after its body. -/

namespace Cert.KV

open Cert.KernelIdeal Cert.KernelIdeal.Gen Idealize.ShloMosaic Idealize.ShloMosaic.TcCoe Cert.Layer

variable {A : Args} {b s s0 : ℕ}

variable (c : Dev nD) (i : grid0.Coords) (arg2 : Memref sig .tc .smem S8 .f32) (harg2 : arg2.IsWhole)
  (arg3 : Memref sig .tc .vmem S1x512x1024 .f32) (harg3 : arg3.IsWhole) (arg4 : Memref sig .tc .vmem S1x1024 .f32)
  (harg4 : arg4.IsWhole) (arg5 : Memref sig .tc .vmem S1024x2816 .bf16) (harg5 : arg5.IsWhole)
  (arg6 : Memref sig .tc .vmem S1x512 .f32) (harg6 : arg6.IsWhole) (arg7 : Memref sig .tc .vmem S1x128 .f32)
  (harg7 : arg7.IsWhole) (arg8 : Memref sig .tc .vmem S256x256 .bf16) (harg8 : arg8.IsWhole)
  (arg9 : Memref sig .tc .vmem S32x512 .f32) (harg9 : arg9.IsWhole) (arg10 : Memref sig .tc .vmem S1x512 .f32)
  (harg10 : arg10.IsWhole) (arg11 : Memref sig .tc .vmem S1x512 .f32) (harg11 : arg11.IsWhole)
  (arg12 : Memref sig .tc .vmem S1x512 .f32) (harg12 : arg12.IsWhole) (arg13 : Memref sig .tc .vmem S1024x1024 .bf16)
  (harg13 : arg13.IsWhole) (arg14 : Memref sig .tc .vmem S2x4x256x256 .f32) (harg14 : arg14.IsWhole)
  (arg15 : Memref sig .tc .vmem S1x512x1024 .f32) (harg15 : arg15.IsWhole) (arg16 : Memref sig .tc .vmem S512x1024 .bf16)
  (harg16 : arg16.IsWhole) (arg17 : Memref sig .tc .vmem S512x512 .bf16) (harg17 : arg17.IsWhole)
  (arg18 : Memref sig .tc .vmem S4x640x128 .bf16) (harg18 : arg18.IsWhole) (arg19 : Memref sig .tc .vmem S4x640x256 .bf16)
  (harg19 : arg19.IsWhole) (arg20 : Memref sig .tc .vmem S544x512 .f32) (harg20 : arg20.IsWhole)
  (arg21 : Memref sig .tc .vmem S512x512 .f32) (harg21 : arg21.IsWhole) (arg22 : Memref sig .tc .vmem S512x512 .f32)
  (harg22 : arg22.IsWhole) (arg23 : Memref sig .tc .vmem S512x512 .f32) (harg23 : arg23.IsWhole)
  (arg24 : Memref sig .tc .vmem S512x1024 .bf16) (harg24 : arg24.IsWhole) (hc0 : ¬cond0_0 i) (hc1 : cond0_1 i)
  (x0 : Vec Ideal S8 .f32) (x1 : Vec Ideal S1x512x1024 .f32) (x2 : Vec Ideal S1x1024 .f32) (x3 : Vec Ideal S1024x2816 .bf16)
  (x4 : Vec Ideal S1x512 .f32) (x5 : Vec Ideal S1x128 .f32) (x6 : Vec Ideal S256x256 .bf16) (x7 : Vec Ideal S32x512 .f32)
  (x8 : Vec Ideal S1x512 .f32) (x9 : Vec Ideal S1x512 .f32) (x10 : Vec Ideal S1x512 .f32) (x11 : Vec Ideal S1024x1024 .bf16)
  (x12 : Vec Ideal S2x4x256x256 .f32)
  (xs2 : Vec Ideal S4x640x128 .bf16) (xs3 : Vec Ideal S4x640x256 .bf16) (xs4 : Vec Ideal S544x512 .f32)
  (h2 : xs2 = ksF A b s0) (h3 : xs3 = vsF A b s0) (h4 : xs4 = usF A b s0) (hs : s = s0 + 512)
  (hT : Tile A b s i x0 x1 x2 x3 x4 x5 x6 x7 x8 x9 x10 x11 x12)

set_option maxHeartbeats 4000000 in
include h2 h3 h4 hs hT in
theorem B_CS : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).2.2.2.2.2.2.1 = fun y => cv A b (s + (y 0).val) (y 1).val := by
  have hU := B_US c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  refine canon_eq ?_ (View.cover_of_tiledBy _ ![64, 128] (by sl_kernel_rfl))
  unfold kernelRun0_B at hU ⊢
  dsimp only at hU ⊢
  repeat (refine pieces_cons ?_ ?_; swap)
  exact pieces_nil
  all_goals
    sl_unfold_run_values
    simp only [View.readAt_eq_ld, harg9.read_unread, harg10.read_unread, View.readCov_eq_canon', hU]
    intro x
    refine Eq.trans ?_ (at2 (fun p q => cv A b (s + p) q) (ValueKit.rect_emb_unit_val _ _ _ _ _).symm (ValueKit.rect_emb_unit_val _ _ _ _ _).symm)
    obtain ⟨r, q, rfl⟩ := ex_ix2 (m := 64) (n := 128) x
    unfold_payloads
    pointwise
    refine congrArg₂ (· + ·) ?_ (hT.x8 _)
    repeat refine chain_succ ?_ ?_
    · refine chain_one (tap hT 0 ?_)
      omega
    all_goals
      refine tap hT _ ?_
      omega

end Cert.KV
-- ==== Proof.RunBY.lean ====
module

public import proofs.«01_k».proof.Proof.RunBCS
public import proofs.«01_k».proof.Proof.Reads
public import proofs.«01_k».proof.Proof.Att

@[expose] public section

/-! The out-projection's input and the result: what the buffers of a later tile of a batch hold after its body. -/

namespace Cert.KV

open Cert.KernelIdeal Cert.KernelIdeal.Gen Idealize.ShloMosaic Idealize.ShloMosaic.TcCoe Cert.Layer

variable {A : Args} {b s s0 : ℕ}

variable (c : Dev nD) (i : grid0.Coords) (arg2 : Memref sig .tc .smem S8 .f32) (harg2 : arg2.IsWhole)
  (arg3 : Memref sig .tc .vmem S1x512x1024 .f32) (harg3 : arg3.IsWhole) (arg4 : Memref sig .tc .vmem S1x1024 .f32)
  (harg4 : arg4.IsWhole) (arg5 : Memref sig .tc .vmem S1024x2816 .bf16) (harg5 : arg5.IsWhole)
  (arg6 : Memref sig .tc .vmem S1x512 .f32) (harg6 : arg6.IsWhole) (arg7 : Memref sig .tc .vmem S1x128 .f32)
  (harg7 : arg7.IsWhole) (arg8 : Memref sig .tc .vmem S256x256 .bf16) (harg8 : arg8.IsWhole)
  (arg9 : Memref sig .tc .vmem S32x512 .f32) (harg9 : arg9.IsWhole) (arg10 : Memref sig .tc .vmem S1x512 .f32)
  (harg10 : arg10.IsWhole) (arg11 : Memref sig .tc .vmem S1x512 .f32) (harg11 : arg11.IsWhole)
  (arg12 : Memref sig .tc .vmem S1x512 .f32) (harg12 : arg12.IsWhole) (arg13 : Memref sig .tc .vmem S1024x1024 .bf16)
  (harg13 : arg13.IsWhole) (arg14 : Memref sig .tc .vmem S2x4x256x256 .f32) (harg14 : arg14.IsWhole)
  (arg15 : Memref sig .tc .vmem S1x512x1024 .f32) (harg15 : arg15.IsWhole) (arg16 : Memref sig .tc .vmem S512x1024 .bf16)
  (harg16 : arg16.IsWhole) (arg17 : Memref sig .tc .vmem S512x512 .bf16) (harg17 : arg17.IsWhole)
  (arg18 : Memref sig .tc .vmem S4x640x128 .bf16) (harg18 : arg18.IsWhole) (arg19 : Memref sig .tc .vmem S4x640x256 .bf16)
  (harg19 : arg19.IsWhole) (arg20 : Memref sig .tc .vmem S544x512 .f32) (harg20 : arg20.IsWhole)
  (arg21 : Memref sig .tc .vmem S512x512 .f32) (harg21 : arg21.IsWhole) (arg22 : Memref sig .tc .vmem S512x512 .f32)
  (harg22 : arg22.IsWhole) (arg23 : Memref sig .tc .vmem S512x512 .f32) (harg23 : arg23.IsWhole)
  (arg24 : Memref sig .tc .vmem S512x1024 .bf16) (harg24 : arg24.IsWhole) (hc0 : ¬cond0_0 i) (hc1 : cond0_1 i)
  (x0 : Vec Ideal S8 .f32) (x1 : Vec Ideal S1x512x1024 .f32) (x2 : Vec Ideal S1x1024 .f32) (x3 : Vec Ideal S1024x2816 .bf16)
  (x4 : Vec Ideal S1x512 .f32) (x5 : Vec Ideal S1x128 .f32) (x6 : Vec Ideal S256x256 .bf16) (x7 : Vec Ideal S32x512 .f32)
  (x8 : Vec Ideal S1x512 .f32) (x9 : Vec Ideal S1x512 .f32) (x10 : Vec Ideal S1x512 .f32) (x11 : Vec Ideal S1024x1024 .bf16)
  (x12 : Vec Ideal S2x4x256x256 .f32)
  (xs2 : Vec Ideal S4x640x128 .bf16) (xs3 : Vec Ideal S4x640x256 .bf16) (xs4 : Vec Ideal S544x512 .f32)
  (h2 : xs2 = ksF A b s0) (h3 : xs3 = vsF A b s0) (h4 : xs4 = usF A b s0) (hs : s = s0 + 512)
  (hT : Tile A b s i x0 x1 x2 x3 x4 x5 x6 x7 x8 x9 x10 x11 x12)

set_option maxHeartbeats 4000000 in
include h2 h3 h4 hs hT in
theorem B_Y : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).2.2.2.2.2.2.2.2.2.1 = yF A b s := by
  have hd := hT.dvd
  have hz : ¬ s = 0 := by omega
  have hf : ¬ (i 1).val = 0 := fun e => hz (hT.first.mp e)
  have on : ∀ o P : ℕ, ![0, P, 0, 0] = ![if s + o = 0 then 1 else 0, P, 0, 0] := fun o P => by rw [if_neg (by omega)]
  have o1 : k0_off1 i = ![if s + 0 = 0 then 1 else 0, 0, 0, 0] := (k0_off1_eq i).trans (by rw [if_neg hf, if_neg (show ¬ s + 0 = 0 from hz)])
  have o2 : k0_off2 i = ![if s + 0 = 0 then 1 else 0, 1, 0, 0] := (k0_off2_eq i).trans (by rw [if_neg hf, if_neg (show ¬ s + 0 = 0 from hz)])
  have o3 : k0_off3 i = ![if s + 0 = 0 then 1 else 0, 2, 0, 0] := (k0_off3_eq i).trans (by rw [if_neg hf, if_neg (show ¬ s + 0 = 0 from hz)])
  have o4 : k0_off4 i = ![if s + 0 = 0 then 1 else 0, 3, 0, 0] := (k0_off4_eq i).trans (by rw [if_neg hf, if_neg (show ¬ s + 0 = 0 from hz)])
  have hQ := (B_Q c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT).trans qF_eq
  have hK := B_KS c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  have hV := B_VS c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  have hC := B_CS c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  have hA := (B_GA c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT).trans gaF_eq
  have hG := B_GC c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  refine canon_eq ?_ (View.cover_of_tiledBy _ ![64, 128] (by sl_kernel_rfl))
  unfold kernelRun0_B at hQ hK hV hC hA hG ⊢
  dsimp only at hQ hK hV hC hA hG ⊢
  repeat (refine pieces_cons ?_ ?_; swap)
  exact pieces_nil
  all_goals
    sl_unfold_run_values
    simp only [View.readAt_eq_ld, harg2.read_unread, harg11.read_unread, harg12.read_unread, harg14.read_unread, View.readCov_eq_canon', hQ, hK, hV, hC, hA, hG]
    intro x
  iterate 8
    · refine (ln_piece (rows64 (cv A b) _) (hT.ldlw _) (hT.ldlb _) (rows64 (gc A b) _) x).trans ?_
      exact yc_at _ x
  · refine (att0 (group hT (by first | (norm_num; done) | omega) (by first | (norm_num; done) | omega) (by first | (norm_num; done) | omega) (by first | (norm_num; done) | omega) (by first | (norm_num; done) | omega) o1 o2)
      (hT.ldsk _ _) (hT.ldsk _ _) (ga_tile (by first | (norm_num; done) | omega) _) x).trans ?_
    exact ya_at hT (c := 256 * (_ / 256)) (by first | (norm_num; done) | omega) (by first | (norm_num; done) | omega) _ x
  · refine (att1 (group hT (by first | (norm_num; done) | omega) (by first | (norm_num; done) | omega) (by first | (norm_num; done) | omega) (by first | (norm_num; done) | omega) (by first | (norm_num; done) | omega) o1 o2)
      (hT.ldsk _ _) (hT.ldsk _ _) (ga_tile (by first | (norm_num; done) | omega) _) x).trans ?_
    exact ya_at hT (c := 256 * (_ / 256) + 128) (by first | (norm_num; done) | omega) (by first | (norm_num; done) | omega) _ x
  · refine (att0 (group hT (by first | (norm_num; done) | omega) (by first | (norm_num; done) | omega) (by first | (norm_num; done) | omega) (by first | (norm_num; done) | omega) (by first | (norm_num; done) | omega) o3 o4)
      (hT.ldsk _ _) (hT.ldsk _ _) (ga_tile (by first | (norm_num; done) | omega) _) x).trans ?_
    exact ya_at hT (c := 256 * (_ / 256)) (by first | (norm_num; done) | omega) (by first | (norm_num; done) | omega) _ x
  · refine (att1 (group hT (by first | (norm_num; done) | omega) (by first | (norm_num; done) | omega) (by first | (norm_num; done) | omega) (by first | (norm_num; done) | omega) (by first | (norm_num; done) | omega) o3 o4)
      (hT.ldsk _ _) (hT.ldsk _ _) (ga_tile (by first | (norm_num; done) | omega) _) x).trans ?_
    exact ya_at hT (c := 256 * (_ / 256) + 128) (by first | (norm_num; done) | omega) (by first | (norm_num; done) | omega) _ x
  iterate 6
    · refine (att0 (group hT (by first | (norm_num; done) | omega) (by first | (norm_num; done) | omega) (by first | (norm_num; done) | omega) (by first | (norm_num; done) | omega) (by first | (norm_num; done) | omega) (on _ _) (on _ _))
        (hT.ldsk _ _) (hT.ldsk _ _) (ga_tile (by first | (norm_num; done) | omega) _) x).trans ?_
      exact ya_at hT (c := 256 * (_ / 256)) (by first | (norm_num; done) | omega) (by first | (norm_num; done) | omega) _ x
    · refine (att1 (group hT (by first | (norm_num; done) | omega) (by first | (norm_num; done) | omega) (by first | (norm_num; done) | omega) (by first | (norm_num; done) | omega) (by first | (norm_num; done) | omega) (on _ _) (on _ _))
        (hT.ldsk _ _) (hT.ldsk _ _) (ga_tile (by first | (norm_num; done) | omega) _) x).trans ?_
      exact ya_at hT (c := 256 * (_ / 256) + 128) (by first | (norm_num; done) | omega) (by first | (norm_num; done) | omega) _ x

set_option maxHeartbeats 4000000 in
include h2 h3 h4 hs hT in
theorem B_L13 : View.canon (Val := Elt Ideal)
      (kernelRun0_B (F := Ideal) c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18
      arg19 harg19 arg20 harg20 arg21 harg21 arg22 harg22 arg23 harg23 arg24 harg24 hc0 hc1 x0 x1 x2 x3 x4 x5 x6 x7 x8 x9 x10
      x11 x12 xs2 xs3 xs4).1 = fun y => outK A b (s + (y 1).val) (y 2).val := by
  have hY := B_Y c i arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs2 xs3 xs4 h2 h3 h4 hs hT
  refine canon_eq ?_ (View.cover_of_tiledL _ S1x512x256.size (by sl_kernel_rfl))
  unfold kernelRun0_B at hY ⊢
  dsimp only at hY ⊢
  repeat (refine pieces_cons ?_ ?_; swap)
  exact pieces_nil
  all_goals
    sl_unfold_run_values
    simp only [View.readAt_eq_ld, harg3.read_unread, harg13.read_unread, View.readCov_eq_canon', hY]
    intro x
    refine (out_piece (hT.ldx' _) (y_whole _) (hT.ldwo _) x).trans ?_
    exact out_at _ x

end Cert.KV
-- ==== Proof.Sweep.lean ====
module

public import proofs.«01_k».proof.Proof.RunAY
public import proofs.«01_k».proof.Proof.RunBY
public import proofs.«01_k».proof.Proof.Gen.KernelIdeal.Value

@[expose] public section

/-! What the carried buffers and the result hold after each grid point, by induction over the points. -/

namespace Cert.KV

open Cert.KernelIdeal Cert.KernelIdeal.Gen Cert.KernelIdeal.Value Idealize.ShloMosaic Idealize.ShloMosaic.TcCoe Cert.Layer

/-- The result's block of the tile at row `s` of batch `b`. -/
noncomputable def outF (A : Args) (b s : ℕ) (y : S1x512x1024.Idx) : EReal := outK A b (s + (y 1).val) (y 2).val

theorem outF_eq {A : Args} {b s : ℕ} : (fun y : S1x512x1024.Idx => outK A b (s + (y 1).val) (y 2).val) = outF A b s := rfl

theorem ksF_eq {A : Args} {b s : ℕ} : (fun y => ksF A b s y) = ksF A b s := rfl

variable {A : Args} (m : (ℓ : Loc nD τ sig) → Buf (Elt Ideal) ℓ) (c : Dev nD)

/-- The kernel's operands as the tiles read them, at every grid point. -/
def Tiles (A : Args) (m : (ℓ : Loc nD τ sig) → Buf (Elt Ideal) ℓ) (c : Dev nD) : Prop :=
  ∀ t : Fin cfg0.N, Tile A (t.val / 8) (512 * (t.val % 8)) (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t) (iblk m c 12 t)

set_option maxHeartbeats 4000000 in
theorem first_tile (hT : Tiles A m c) (t : Fin cfg0.N) (h0 : t.val % 8 = 0) (h1 : ¬ 1 ≤ t.val % 8) :
    outsAt0 (F := Ideal) m c t.val t.isLt = (outF A (t.val / 8) 0, ksF A (t.val / 8) 0, vsF A (t.val / 8) 0, usF A (t.val / 8) 0) := by
  have hT' := hT t
  rw [h0, Nat.mul_zero] at hT'
  rw [outsAt0_A m c t h0 h1]
  refine Prod.ext ?_ (Prod.ext ?_ (Prod.ext ?_ ?_))
  · dsimp only [out0_A_13]
    rw [View.read_writes_junk_eq_canon]
    exact (A_L13 (hT := hT') ..)
  · dsimp only [sout0_A_2]
    rw [View.read_writes_junk_eq_canon]
    exact (A_KS (hT := hT') ..)
  · dsimp only [sout0_A_3]
    rw [View.read_writes_junk_eq_canon]
    exact (A_VS (hT := hT') ..)
  · dsimp only [sout0_A_4]
    rw [View.read_writes_junk_eq_canon]
    exact (A_US (hT := hT') ..)

set_option maxHeartbeats 4000000 in
theorem later_tile (hT : Tiles A m c) (t : Fin cfg0.N) (h0 : ¬ t.val % 8 = 0) (h1 : 1 ≤ t.val % 8) {b s0 : ℕ} (hb : t.val / 8 = b)
    (hs : 512 * (t.val % 8) = s0 + 512)
    (hp : (outsAt0 (F := Ideal) m c (t.val - 1) (lt_of_le_of_lt (Nat.sub_le _ _) t.isLt)).2 = (ksF A b s0, vsF A b s0, usF A b s0)) :
    outsAt0 (F := Ideal) m c t.val t.isLt = (outF A b (512 * (t.val % 8)), ksF A b (512 * (t.val % 8)), vsF A b (512 * (t.val % 8)), usF A b (512 * (t.val % 8))) := by
  have hT' := hT t
  rw [hb] at hT'
  have h2 := congrArg Prod.fst hp
  have h3 := congrArg (fun q => q.2.1) hp
  have h4 := congrArg (fun q => q.2.2) hp
  dsimp only at h2 h3 h4
  rw [outsAt0_B m c t h0 h1]
  refine Prod.ext ?_ (Prod.ext ?_ (Prod.ext ?_ ?_))
  · dsimp only [out0_B_13]
    rw [View.read_writes_junk_eq_canon]
    exact (B_L13 (h2 := h2) (h3 := h3) (h4 := h4) (hs := hs) (hT := hT') ..)
  · dsimp only [sout0_B_2]
    rw [View.read_writes_junk_eq_canon]
    exact (B_KS (h2 := h2) (h3 := h3) (h4 := h4) (hs := hs) (hT := hT') ..)
  · dsimp only [sout0_B_3]
    rw [View.read_writes_junk_eq_canon]
    exact (B_VS (h2 := h2) (h3 := h3) (h4 := h4) (hs := hs) (hT := hT') ..)
  · dsimp only [sout0_B_4]
    rw [View.read_writes_junk_eq_canon]
    exact (B_US (h2 := h2) (h3 := h3) (h4 := h4) (hs := hs) (hT := hT') ..)

theorem tiles (hT : Tiles A m c) : ∀ (n : ℕ) (hn : n < cfg0.N), outsAt0 (F := Ideal) m c n hn
    = (outF A (n / 8) (512 * (n % 8)), ksF A (n / 8) (512 * (n % 8)), vsF A (n / 8) (512 * (n % 8)), usF A (n / 8) (512 * (n % 8)))
  | 0, hn => first_tile m c hT ⟨0, hn⟩ rfl (by norm_num)
  | n + 1, hn => by
    by_cases h0 : (n + 1) % 8 = 0
    · have e := first_tile m c hT ⟨n + 1, hn⟩ h0 (by show ¬ 1 ≤ (n + 1) % 8; omega)
      refine e.trans ?_
      rw [h0]
    · exact later_tile m c hT ⟨n + 1, hn⟩ h0 (by show 1 ≤ (n + 1) % 8; omega) (b := (n + 1) / 8) (s0 := 512 * (n % 8)) rfl
        (by show 512 * ((n + 1) % 8) = _; omega)
        ((congrArg Prod.snd (tiles hT n (Nat.lt_of_succ_lt hn))).trans (by rw [show n / 8 = (n + 1) / 8 by omega]))

/-- The result array, at every index. -/
theorem result (hT : Tiles A m c) (i : S4x4096x1024.Idx) : G13 (F := Ideal) m c i = outK A (i 0).val (i 1).val (i 2).val := by
  have h0 : (i 0).val < 4 := (i 0).isLt
  have h1 : (i 1).val < 4096 := (i 1).isLt
  have h2 : (i 2).val < 1024 := (i 2).isLt
  have hp : pt13Of i = 8 * (i 0).val + (i 1).val / 512 := by
    show 8 * ((i 0).val / 1 - 0) + 1 * ((i 1).val / 512 - 0) + 1 * ((i 2).val / 1024 - 0) = _
    omega
  have hN : pt13Of i < cfg0.N := lt_of_lt_of_eq (by rw [hp]; omega : pt13Of i < 32) N_0.symm
  unfold G13
  rw [dif_pos hN, ← outsAt0_sweep m c (pt13Of i) hN, tiles m c hT]
  show outK A (pt13Of i / 8) (512 * (pt13Of i % 8) + (i 1).val % 512) ((i 2).val % 1024) = _
  rw [hp, show (8 * (i 0).val + (i 1).val / 512) / 8 = (i 0).val by omega,
    show 512 * ((8 * (i 0).val + (i 1).val / 512) % 8) + (i 1).val % 512 = (i 1).val by omega, Nat.mod_eq_of_lt h2]

end Cert.KV
-- ==== Proof.Arr.lean ====
module

public import proofs.«01_k».proof.Proof.Tile

@[expose] public section

/-! The layer's arguments read from arrays. -/

namespace Cert.Layer

open Cert.KernelIdeal Idealize.ShloMosaic Idealize.ShloMosaic.TcCoe

/-- The additive mask's low value. -/
noncomputable def low : EReal := Ideal.ofBits .f32 0xF149F2CA#32

/-- The arguments `A` are what the arrays hold; `G` is the position bias of each query and key. -/
structure Arr (A : Args) (x0 : Vec Ideal S4x4096x1024 .f32) (x1 : Vec Ideal S1x1024 .f32) (x2 : Vec Ideal S1x1024x2816 .f32)
    (x3 x4 : Vec Ideal S1x64 .f32) (x5 : Vec Ideal S1x8 .f32) (x6 : Vec Ideal S1x31x512 .f32) (x7 x8 x9 : Vec Ideal S1x512 .f32)
    (x10 : Vec Ideal S1x1024x1024 .f32) (G : Vec Ideal S128x256x8 .f32) : Prop where
  X : ∀ i, x0 i = A.X (i 0).val (i 1).val (i 2).val
  NW : ∀ i, x1 i = A.NW (i 1).val
  W : ∀ i, x2 i = A.W (i 1).val (i 2).val
  QW : ∀ i, x3 i = A.QW (i 1).val
  KW : ∀ i, x4 i = A.KW (i 1).val
  SK : ∀ i, x5 i = A.SK (i 1).val
  DW : ∀ i, x6 i = A.DW (i 1).val (i 2).val
  DW31 : ∀ c, A.DW 31 c = 0
  DB : ∀ i, x7 i = A.DB (i 1).val
  LW : ∀ i, x8 i = A.LW (i 1).val
  LB : ∀ i, x9 i = A.LB (i 1).val
  WO : ∀ i, x10 i = A.WO (i 1).val (i 2).val
  BT : ∀ (f : Bool) (n : Fin 8) (q : Fin 128) (s : Fin 256), A.BT f n.val q.val s.val
    = if (s.val ≤ q.val + 128 ∧ q.val < s.val) ∧ (f = true → 128 ≤ s.val) then G (ix3 q s n) else low

/-- The arguments that the arrays hold. -/
noncomputable def argsOf (x0 : Vec Ideal S4x4096x1024 .f32) (x1 : Vec Ideal S1x1024 .f32) (x2 : Vec Ideal S1x1024x2816 .f32)
    (x3 x4 : Vec Ideal S1x64 .f32) (x5 : Vec Ideal S1x8 .f32) (x6 : Vec Ideal S1x31x512 .f32) (x7 x8 x9 : Vec Ideal S1x512 .f32)
    (x10 : Vec Ideal S1x1024x1024 .f32) (G : Vec Ideal S128x256x8 .f32) : Args where
  X b s n := x0 (ix3 (Fin.ofNat 4 b) (Fin.ofNat 4096 s) (Fin.ofNat 1024 n))
  NW n := x1 (ix2 0 (Fin.ofNat 1024 n))
  W c n := x2 (ix3 0 (Fin.ofNat 1024 c) (Fin.ofNat 2816 n))
  QW d := x3 (ix2 0 (Fin.ofNat 64 d))
  KW d := x4 (ix2 0 (Fin.ofNat 64 d))
  SK n := x5 (ix2 0 (Fin.ofNat 8 n))
  DW j c := if j < 31 then x6 (ix3 0 (Fin.ofNat 31 j) (Fin.ofNat 512 c)) else 0
  DB c := x7 (ix2 0 (Fin.ofNat 512 c))
  LW c := x8 (ix2 0 (Fin.ofNat 512 c))
  LB c := x9 (ix2 0 (Fin.ofNat 512 c))
  WO c n := x10 (ix3 0 (Fin.ofNat 1024 c) (Fin.ofNat 1024 n))
  BT f n q s := if (s ≤ q + 128 ∧ q < s) ∧ (f = true → 128 ≤ s) then G (ix3 (Fin.ofNat 128 q) (Fin.ofNat 256 s) (Fin.ofNat 8 n)) else low

theorem ofNat_val {n : ℕ} [NeZero n] (i : Fin n) : Fin.ofNat n i.val = i := Fin.ext (Nat.mod_eq_of_lt i.isLt)

theorem arr {x0 x1 x2 x3 x4 x5 x6 x7 x8 x9 x10 G} : Arr (argsOf x0 x1 x2 x3 x4 x5 x6 x7 x8 x9 x10 G) x0 x1 x2 x3 x4 x5 x6 x7 x8 x9 x10 G := by
  have e2 : ∀ {n : ℕ} [NeZero n] (i : (⟨2, ![1, n]⟩ : Shape).Idx), i = ix2 0 (Fin.ofNat n (i 1).val) := fun {n} _ i =>
    (eq_ix2 i).trans (congrArg₂ ix2 (Subsingleton.elim (α := Fin 1) _ _) (ofNat_val (n := n) (show Fin n from i 1)).symm)
  refine ⟨fun i => ?_, fun i => congrArg x1 (e2 i), fun i => ?_, fun i => congrArg x3 (e2 i), fun i => congrArg x4 (e2 i),
    fun i => congrArg x5 (e2 i), fun i => ?_, fun c => (if_neg (Nat.lt_irrefl 31) : (if 31 < 31 then x6 (ix3 0 (Fin.ofNat 31 31) (Fin.ofNat 512 c)) else 0) = 0), fun i => congrArg x7 (e2 i), fun i => congrArg x8 (e2 i), fun i => congrArg x9 (e2 i), fun i => ?_,
    fun f n q s => ?_⟩
  · obtain ⟨a, b, c, rfl⟩ : ∃ a b c, i = ix3 a b c := ⟨i 0, i 1, i 2, eq_ix3 i⟩
    show _ = x0 (ix3 (Fin.ofNat 4 a.val) (Fin.ofNat 4096 b.val) (Fin.ofNat 1024 c.val))
    rw [ofNat_val, ofNat_val, ofNat_val]
  · obtain ⟨a, b, c, rfl⟩ : ∃ a b c, i = ix3 a b c := ⟨i 0, i 1, i 2, eq_ix3 i⟩
    show _ = x2 (ix3 0 (Fin.ofNat 1024 b.val) (Fin.ofNat 2816 c.val))
    rw [ofNat_val, ofNat_val, Subsingleton.elim (α := Fin 1) a 0]
  · obtain ⟨a, b, c, rfl⟩ : ∃ a b c, i = ix3 a b c := ⟨i 0, i 1, i 2, eq_ix3 i⟩
    refine Eq.trans ?_ (if_pos b.isLt).symm
    show _ = x6 (ix3 0 (Fin.ofNat 31 b.val) (Fin.ofNat 512 c.val))
    rw [ofNat_val, ofNat_val, Subsingleton.elim (α := Fin 1) a 0]
  · obtain ⟨a, b, c, rfl⟩ : ∃ a b c, i = ix3 a b c := ⟨i 0, i 1, i 2, eq_ix3 i⟩
    show _ = x10 (ix3 0 (Fin.ofNat 1024 b.val) (Fin.ofNat 1024 c.val))
    rw [ofNat_val, ofNat_val, Subsingleton.elim (α := Fin 1) a 0]
  · show (if _ then G (ix3 (Fin.ofNat 128 q.val) (Fin.ofNat 256 s.val) (Fin.ofNat 8 n.val)) else low) = _
    rw [ofNat_val, ofNat_val, ofNat_val]

end Cert.Layer
-- ==== Proof.RefA.lean ====
module

public import proofs.«01_k».proof.Proof.Arr
public import proofs.«01_k».proof.Proof.Stage
public import proofs.«01_k».proof.Proof.Gen.ReferenceIdeal.Read
public import Idealize.ShloMosaic.Lib.Pointwise
public import Idealize.ShloMosaic.Lib.Pointwise.Tactic

@[expose] public section

/-! The reference's stages up to the normalised queries, keys and the gates, in the layer's terms. -/

namespace Cert.RV

open Cert.ReferenceIdeal Cert.ReferenceIdeal.Read Idealize.ShloMosaic Idealize.ShloMosaic.TcCoe Cert.Layer

theorem div_1024 (x : EReal) : Ideal.div x (Ideal.ofBits .f32 0x44800000#32) = x * ((1 / 1024 : ℝ) : EReal) := by
  rw [show Ideal.ofBits .f32 0x44800000#32 = ((1024 : ℝ) : EReal) by
    unfold Ideal.ofBits Ideal.ieee; simp; rw [← EReal.coe_mul]; norm_num, Ideal.div_coe (by norm_num), one_div]
theorem div_64 (x : EReal) : Ideal.div x (Ideal.ofBits .f32 0x42800000#32) = x * ((1 / 64 : ℝ) : EReal) := by
  rw [show Ideal.ofBits .f32 0x42800000#32 = ((64 : ℝ) : EReal) by
    unfold Ideal.ofBits Ideal.ieee; simp; rw [← EReal.coe_mul]; norm_num, Ideal.div_coe (by norm_num), one_div]
theorem div_512 (x : EReal) : Ideal.div x (Ideal.ofBits .f32 0x44000000#32) = x * ((1 / 512 : ℝ) : EReal) := by
  rw [show Ideal.ofBits .f32 0x44000000#32 = ((512 : ℝ) : EReal) by
    unfold Ideal.ofBits Ideal.ieee; simp; rw [← EReal.coe_mul]; norm_num, Ideal.div_coe (by norm_num), one_div]

theorem sitofp_zero : FloatOps.sitofp (F := Ideal) FTy.f32 0#32 = (0 : EReal) := by
  show (((0#32 : BitVec 32).toInt : ℝ) : EReal) = 0
  simp

variable {A : Args} {x0 : Vec Ideal S4x4096x1024 .f32} {x1 : Vec Ideal S1x1024 .f32} {x2 : Vec Ideal S1x1024x2816 .f32}
    {x3 x4 : Vec Ideal S1x64 .f32} {x5 : Vec Ideal S1x8 .f32} {x6 : Vec Ideal S1x31x512 .f32} {x7 x8 x9 : Vec Ideal S1x512 .f32}
    {x10 : Vec Ideal S1x1024x1024 .f32} {G : Vec Ideal S128x256x8 .f32}
    (hA : Arr A x0 x1 x2 x3 x4 x5 x6 x7 x8 x9 x10 G)

include hA

theorem v13_at (a : Fin 4) (r : Fin 4096) (c : Fin 1024) : val_main_v13 (F := Ideal) x0 x1 (ix3 a r c) = h A a r c := by
  simp only [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  pointwise
  simp only [hA.X, hA.NW, div_1024]
  rfl

theorem v15_at (a : Fin 4) (r : Fin 4096) (c : Fin 2816) : val_main_v15 (F := Ideal) x0 x1 x2 (ix3 a r c) = pr A a r c := by
  have h13 := v13_at hA
  simp only [val_main_v15, val_main_v14]
  generalize val_main_v13 (F := Ideal) x0 x1 = y at h13 ⊢
  pointwise
  simp only [h13, hA.W]
  rfl

theorem v36_at (a : Fin 4) (r : Fin 4096) (g : Fin 2) (n : Fin 4) (d : Fin 64) :
    val_main_v36 (F := Ideal) x0 x1 x2 x3 (ix5 a r g n d) = qn A a r (4 * g + n) d := by
  have h15 := v15_at hA
  simp only [val_main_v36, val_main_v35, val_main_v34, val_main_v33, val_main_v32, val_main_v31, val_main_v30, val_main_v29, val_main_v28, val_main_v27, val_main_v26, val_main_v25, val_main_v24, val_main_v23, val_main_v22, val_main_v16, val_main_cst_2, val_main_cst_3, val_main_cst_4]
  generalize val_main_v15 (F := Ideal) x0 x1 x2 = y at h15 ⊢
  pointwise
  simp only [h15, hA.QW, div_64]
  have e : ∀ x : ℕ, g.val * 256 + n.val * 64 + x = 64 * (4 * g.val + n.val) + x := fun x => by omega
  simp only [e]
  rfl

theorem v51_at (a : Fin 4) (r : Fin 4096) (g : Fin 2) (d : Fin 64) :
    val_main_v51 (F := Ideal) x0 x1 x2 x4 (ix4 a r g d) = kn A a r g d := by
  have h15 := v15_at hA
  simp only [val_main_v51, val_main_v50, val_main_v49, val_main_v48, val_main_v47, val_main_v46, val_main_v45, val_main_v44, val_main_v43, val_main_v42, val_main_v41, val_main_v40, val_main_v39, val_main_v38, val_main_v37, val_main_v17, val_main_cst_5, val_main_cst_6, val_main_cst_7]
  generalize val_main_v15 (F := Ideal) x0 x1 x2 = y at h15 ⊢
  pointwise
  simp only [h15, hA.KW, div_64]
  have e : ∀ x : ℕ, 512 + (g.val * 64 + x) = 512 + 64 * g.val + x := fun x => by omega
  simp only [e]
  rfl

theorem v52_at (a : Fin 4) (r : Fin 4096) (g : Fin 2) (d : Fin 64) :
    val_main_v52 (F := Ideal) x0 x1 x2 (ix4 a r g d) = vv A a r g d := by
  have h15 := v15_at hA
  simp only [val_main_v52, val_main_v18]
  generalize val_main_v15 (F := Ideal) x0 x1 x2 = y at h15 ⊢
  pointwise
  simp only [h15]
  exact congrArg (pr A _ _) (by show _ = 640 + 64 * g.val + d.val; omega)

theorem v152_at (a : Fin 4) (r : Fin 4096) (c : Fin 512) : val_main_v152 (F := Ideal) x0 x1 x2 (ix3 a r c) = ga A a r c := by
  have h15 := v15_at hA
  simp only [val_main_v152, val_main_call5_v5, val_main_call5_v4, val_main_call5_v3, val_main_call5_v2, val_main_call5_v1, val_main_call5_v0,
    val_main_call5_cst, val_main_call5_cst_0, val_main_v19]
  generalize val_main_v15 (F := Ideal) x0 x1 x2 = y at h15 ⊢
  pointwise
  simp only [h15, KV.lit_1]
  rfl

theorem v414_at (a : Fin 4) (r : Fin 4096) (c : Fin 512) : val_main_v414 (F := Ideal) x0 x1 x2 (ix3 a r c) = gc A a r c := by
  have h15 := v15_at hA
  simp only [val_main_v414, val_main_call8_v5, val_main_call8_v4, val_main_call8_v3, val_main_call8_v2, val_main_call8_v1, val_main_call8_v0,
    val_main_call8_cst, val_main_call8_cst_0, val_main_v21]
  generalize val_main_v15 (F := Ideal) x0 x1 x2 = y at h15 ⊢
  pointwise
  simp only [h15, KV.lit_1]
  rfl

theorem v166_at (a : Fin 4) (r : Fin 4096) (c : Fin 512) : val_main_v166 (F := Ideal) x0 x1 x2 (ix3 a r c) = uu A a r c := by
  have h15 := v15_at hA
  simp only [val_main_v166, val_main_v165, val_main_v164, val_main_v163, val_main_v162, val_main_v161, val_main_v160, val_main_v159, val_main_v158, val_main_v20, val_main_cst_29, val_main_cst_30]
  generalize val_main_v15 (F := Ideal) x0 x1 x2 = y at h15 ⊢
  pointwise
  simp only [h15, KV.lit_1]
  have e : 1280 + (512 + c.val) = 1792 + c.val := by omega
  simp only [e]
  rfl

theorem v167_at (a : Fin 4) (r : Fin 4126) (c : Fin 512) : val_main_v167 (F := Ideal) x0 x1 x2 (ix3 a r c) = up A a r c := by
  have h166 := v166_at hA
  simp only [val_main_v167, val_main_call6_v0, val_main_c_31]
  generalize val_main_v166 (F := Ideal) x0 x1 x2 = y at h166 ⊢
  pointwise
  unfold up
  by_cases hr : r.val < 30
  · rw [dif_neg (by omega), if_pos hr]
    exact sitofp_zero
  · rw [dif_pos (by omega), if_neg hr, h166]

theorem v55_at (a : Fin 4) (t : Fin 4224) (g : Fin 2) (d : Fin 64) :
    val_main_v55 (F := Ideal) x0 x1 x2 x4 (ix4 a t g d) = kp A a t g d := by
  have h51 := v51_at hA
  simp only [val_main_v55, val_main_call0_v0, val_main_c]
  generalize val_main_v51 (F := Ideal) x0 x1 x2 x4 = y at h51 ⊢
  pointwise
  unfold kp
  by_cases hr : t.val < 128
  · rw [dif_neg (by omega), if_pos hr]
    exact sitofp_zero
  · rw [dif_pos (by omega), if_neg hr, h51]

theorem v57_at (a : Fin 4) (t : Fin 4224) (g : Fin 2) (d : Fin 64) :
    val_main_v57 (F := Ideal) x0 x1 x2 (ix4 a t g d) = vp A a t g d := by
  have h52 := v52_at hA
  simp only [val_main_v57, val_main_call1_v0, val_main_c_8]
  generalize val_main_v52 (F := Ideal) x0 x1 x2 = y at h52 ⊢
  pointwise
  unfold vp
  by_cases hr : t.val < 128
  · rw [dif_neg (by omega), if_pos hr]
    exact sitofp_zero
  · rw [dif_pos (by omega), if_neg hr, h52]

end Cert.RV
-- ==== Proof.Words.lean ====
module

public import proofs.«01_k».proof.Proof.RefA

@[expose] public section

/-! The index words of the masks: the band of the window and the keys before the sequence. -/

namespace Cert.RV
open Idealize.ShloMosaic
theorem small_toInt {n : ℕ} (h : n < 4096) : (BitVec.ofNat 32 n).toInt = n := by
  have e : (BitVec.ofNat 32 n).toNat = n := Nat.mod_eq_of_lt (by omega)
  rw [BitVec.toInt_eq_toNat_of_lt (by rw [e]; omega), e]

theorem dist_toInt {q s : ℕ} (hq : q < 128) (hs : s < 256) :
    (IntOp.subi (IntOp.addi (BitVec.ofNat 32 q) 128#32) (BitVec.ofNat 32 s)).toInt = (q : ℤ) + 128 - s := by
  show (BitVec.ofNat 32 q + BitVec.ofNat 32 128 - BitVec.ofNat 32 s).toInt = _
  rw [BitVec.toInt_sub, BitVec.toInt_add, small_toInt (by omega : q < 4096), small_toInt (by omega : s < 4096), small_toInt (by omega : 128 < 4096)]
  simp [Int.bmod]; omega

/-- The band of the window, as the index words give it. -/
theorem band_word {q s : ℕ} (hq : q < 128) (hs : s < 256) :
    IntOp.andi (IntOp.cmpi .sge (IntOp.subi (IntOp.addi (BitVec.ofNat 32 q) 128#32) (BitVec.ofNat 32 s)) 0#32)
      (IntOp.cmpi .slt (IntOp.subi (IntOp.addi (BitVec.ofNat 32 q) 128#32) (BitVec.ofNat 32 s)) 128#32)
      = BitVec.ofBool (decide (s ≤ q + 128 ∧ q < s)) := by
  have e := dist_toInt hq hs
  generalize IntOp.subi (IntOp.addi (BitVec.ofNat 32 q) 128#32) (BitVec.ofNat 32 s) = w at e ⊢
  show BitVec.ofBool ((0#32).sle w) &&& BitVec.ofBool (w.slt 128#32) = _
  have a1 : (0#32).sle w = decide (s ≤ q + 128) := by
    simp only [BitVec.sle, e]
    exact decide_eq_decide.mpr (by show (0 : ℤ) ≤ _ ↔ _; omega)
  have a2 : w.slt 128#32 = decide (q < s) := by
    simp only [BitVec.slt, e]
    exact decide_eq_decide.mpr (by show _ < (128 : ℤ) ↔ _; omega)
  rw [a1, a2]
  by_cases hp : s ≤ q + 128 <;> by_cases hq : q < s <;> simp [hp, hq]

theorem sge_word {s : ℕ} (hs : s < 256) : IntOp.cmpi .sge (BitVec.ofNat 32 s) 128#32 = BitVec.ofBool (decide (128 ≤ s)) := by
  show BitVec.ofBool ((128#32).sle (BitVec.ofNat 32 s)) = _
  simp only [BitVec.sle, small_toInt (by omega : s < 4096)]
  exact congrArg _ (decide_eq_decide.mpr (by show (128 : ℤ) ≤ _ ↔ _; omega))

theorem valid_word {k s : ℕ} (hk : k < 32) (hs : s < 256) :
    IntOp.ori (IntOp.cmpi .sgt (BitVec.ofNat 32 k) 0#32) (IntOp.cmpi .sge (BitVec.ofNat 32 s) 128#32)
      = BitVec.ofBool (decide (k = 0 → 128 ≤ s)) := by
  rw [sge_word hs]
  show BitVec.ofBool ((0#32).slt (BitVec.ofNat 32 k)) ||| _ = _
  have a1 : (0#32).slt (BitVec.ofNat 32 k) = decide (k ≠ 0) := by
    simp only [BitVec.slt, small_toInt (by omega : k < 4096)]
    exact decide_eq_decide.mpr (by show (0 : ℤ) < _ ↔ _; omega)
  rw [a1]
  by_cases hp : k = 0 <;> by_cases hq : 128 ≤ s <;> simp [hp, hq]

theorem ofBool_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_ofBool {α : Type} (p : Prop) [Decidable p] (a b : α) : Scalar.select (BitVec.ofBool (decide p)) a b = if p then a else b := by
  by_cases hp : p <;> simp [hp, Scalar.select]
end Cert.RV
-- ==== Proof.Operands.lean ====
module

public import proofs.«01_k».proof.Proof.Tile
public import proofs.«01_k».proof.Proof.Words
public import Idealize.ShloMosaic.Lib.Claim
public import Idealize.ShloMosaic.Lib.StableHlo.ReadAt
public import Idealize.ShloMosaic.Lib.Pipeline.ValueKit.Point

@[expose] public section

/-! What the kernel's host operations leave in the operands, at an index. -/

namespace Cert.KV

open Cert.KernelIdeal Cert.KernelIdeal.Gen Idealize.ShloMosaic Idealize.ShloMosaic.TcCoe Idealize.ShloMosaic.StableHlo

variable (m : (ℓ : Loc nD τ sig) → Buf (Elt Ideal) ℓ) (c : Dev nD)

theorem v4_at (a : Fin 8) : V m c main_v4 (ix1 a) = m ((c : Thread nD τ).loc main_arg5) (ix2 0 a) := by
  unfold V
  after_reads_at

theorem v32_at (a : Fin 1) (b : Fin 1024) : V m c main_v32 (ix2 a b) = m ((c : Thread nD τ).loc main_arg1) (ix2 0 b) := by
  unfold V
  after_reads_at

theorem v33_at (a : Fin 1024) (b : Fin 2816) : V m c main_v33 (ix2 a b) = m ((c : Thread nD τ).loc main_arg2) (ix3 0 a b) := by
  unfold V
  after_reads_at

theorem v25_at (a : Fin 1) (b : Fin 512) :
    V m c main_v25 (ix2 a b) = HMul.hMul (α := EReal) (m ((c : Thread nD τ).loc main_arg3) (ix2 0 ⟨b.val % 64, by omega⟩)) ((1 / 8 : ℝ) : EReal) := by
  unfold V
  after_reads_at
  rw [lit_8]

theorem v29_at (a : Fin 1) (b : Fin 128) : V m c main_v29 (ix2 a b) = m ((c : Thread nD τ).loc main_arg4) (ix2 0 ⟨b.val % 64, by omega⟩) := by
  unfold V
  after_reads_at

theorem v31_at (a : Fin 32) (b : Fin 512) :
    V m c main_v31 (ix2 a b) = (if h : a.val < 31 then m ((c : Thread nD τ).loc main_arg6) (ix3 0 ⟨a.val, h⟩ b) else (0 : EReal) : EReal) := by
  unfold V
  after_reads_at

theorem v34_at (a : Fin 1) (b : Fin 512) : V m c main_v34 (ix2 a b) = m ((c : Thread nD τ).loc main_arg7) (ix2 0 b) := by
  unfold V
  after_reads_at

theorem v35_at (a : Fin 1) (b : Fin 512) : V m c main_v35 (ix2 a b) = m ((c : Thread nD τ).loc main_arg8) (ix2 0 b) := by
  unfold V
  after_reads_at

theorem v36_at (a : Fin 1) (b : Fin 512) : V m c main_v36 (ix2 a b) = m ((c : Thread nD τ).loc main_arg9) (ix2 0 b) := by
  unfold V
  after_reads_at

theorem v37_at (a : Fin 1024) (b : Fin 1024) : V m c main_v37 (ix2 a b) = m ((c : Thread nD τ).loc main_arg10) (ix3 0 a b) := by
  unfold V
  after_reads_at

/-- The host's quotient by 64 of an index, rounded down. -/
theorem floor_word : ∀ a : Fin 256,
    Scalar.select
      (IntOp.andi (IntOp.cmpi CmpIPredicate.ne (if BitVec.ofNat 32 a.val = 0 then (0 : BitVec 32) else if (BitVec.ofNat 32 a.val).msb = true then -1 else 1)
          (if 64#32 = 0 then 0 else if (64#32).msb = true then -1 else 1))
        (IntOp.cmpi CmpIPredicate.ne (IntOp.remsi ArithUnit.host (BitVec.ofNat 32 a.val) 64#32) 0#32))
      (IntOp.subi (IntOp.divsi ArithUnit.host (BitVec.ofNat 32 a.val) 64#32) 1#32) (IntOp.divsi ArithUnit.host (BitVec.ofNat 32 a.val) 64#32)
      = BitVec.ofNat 32 (a.val / 64) := by
  decide +kernel

theorem same_word : ∀ x y : Fin 4, IntOp.cmpi CmpIPredicate.eq (BitVec.ofNat 32 x.val) (BitVec.ofNat 32 y.val) = BitVec.ofBool (decide (x.val = y.val)) := by
  decide

theorem v19_at (a : Fin 256) (b : Fin 256) : V m c main_v19 (ix2 a b) = if a.val / 64 = b.val / 64 then (1 : EReal) else 0 := by
  unfold V
  after_reads_at
  simp only [id]
  pointwise
  refine (congrArg₂ (fun u v => Scalar.select (IntOp.cmpi CmpIPredicate.eq u v) (1 : EReal) 0) (floor_word a) (floor_word b)).trans ?_
  rw [same_word ⟨a.val / 64, by omega⟩ ⟨b.val / 64, by omega⟩]
  exact RV.select_ofBool _ _ _

end Cert.KV
-- ==== Proof.Table.lean ====
module

public import proofs.«01_k».proof.Proof.Words
public import proofs.«01_k».proof.Proof.Tile
public import proofs.«01_k».proof.Proof.Gen.ReferenceIdeal.Read
public import Idealize.ShloMosaic.Lib.Claim
public import Idealize.ShloMosaic.Lib.StableHlo.ReadAt
public import Idealize.ShloMosaic.Lib.Pipeline.ValueKit.Point

@[expose] public section

/-! The two bias tables that the kernel's host operations leave, at an index. -/

namespace Cert.KV

open Cert.KernelIdeal Cert.KernelIdeal.Gen Idealize.ShloMosaic Idealize.ShloMosaic.TcCoe Idealize.ShloMosaic.StableHlo

/-- Two lists of operations one after the other. -/
theorem after_two (l₁ l₂ : List (HloOp τ sig (Elt Ideal))) (U : Valuation τ sig (Elt Ideal)) : after (l₁ ++ l₂) U = after l₂ (after l₁ U) := by
  induction l₁ generalizing U with
  | nil => rfl
  | cons op l ih => exact ih _

variable (m : (ℓ : Loc nD τ sig) → Buf (Elt Ideal) ℓ) (c : Dev nD)

/-- The buffers before the last four groups of host operations. -/
noncomputable def W : Valuation τ sig (Elt Ideal) :=
  after (List.flatten [hostOps0, hostOps0_1, hostOps0_2, hostOps0_3, hostOps0_4, hostOps0_5, hostOps0_6]) (fun b => m (c, b))

theorem V_eq (b : Ref sig .tc) : V m c b = after (List.flatten [hostOps0_7, hostOps0_8, hostOps0_9, hostOps0_10]) (W m c) b :=
  congrFun (after_two (List.flatten [hostOps0, hostOps0_1, hostOps0_2, hostOps0_3, hostOps0_4, hostOps0_5, hostOps0_6])
    (List.flatten [hostOps0_7, hostOps0_8, hostOps0_9, hostOps0_10]) (fun b => m (c, b))) b

theorem W_v81 (q : Fin 128) (s : Fin 256) : W m c main_v81 (ix3 q s 0) = BitVec.ofBool (decide (s.val ≤ q.val + 128 ∧ q.val < s.val)) := by
  unfold W
  after_reads_at
  exact RV.band_word q.isLt s.isLt

theorem W_v73 (s : Fin 256) : W m c main_v73 (ix2 0 s) = BitVec.ofBool (decide (128 ≤ s.val)) := by
  unfold W
  after_reads_at
  exact RV.sge_word s.isLt

theorem W_cst : W m c main_cst_17 ix0 = Ideal.ofBits .f32 0xF149F2CA#32 := by
  unfold W
  after_reads_at

set_option maxHeartbeats 4000000 in
theorem W_v80 : W m c main_v80 = Cert.ReferenceIdeal.Read.val_main_v109 (F := Ideal) (m ((c : Thread nD τ).loc main_arg11)) := by
  unfold W
  after_reads_simp
  simp only [Cert.ReferenceIdeal.Read.val_main_v109, Cert.ReferenceIdeal.Read.val_main_v108, Cert.ReferenceIdeal.Read.val_main_v107, Cert.ReferenceIdeal.Read.val_main_v102, Cert.ReferenceIdeal.Read.val_main_v99, Cert.ReferenceIdeal.Read.val_main_v98, Cert.ReferenceIdeal.Read.val_main_c_19, Cert.ReferenceIdeal.Read.val_main_v97, Cert.ReferenceIdeal.Read.val_main_v95, Cert.ReferenceIdeal.Read.val_main_v94, Cert.ReferenceIdeal.Read.val_main_v93, Cert.ReferenceIdeal.Read.val_main_cst_17, Cert.ReferenceIdeal.Read.val_main_v92, Cert.ReferenceIdeal.Read.val_main_v91, Cert.ReferenceIdeal.Read.val_main_cst_16, Cert.ReferenceIdeal.Read.val_main_v90, Cert.ReferenceIdeal.Read.val_main_v89, Cert.ReferenceIdeal.Read.val_main_v88, Cert.ReferenceIdeal.Read.val_main_cst_15, Cert.ReferenceIdeal.Read.val_main_v87, Cert.ReferenceIdeal.Read.val_main_v86, Cert.ReferenceIdeal.Read.val_main_v85, Cert.ReferenceIdeal.Read.val_main_c_14, Cert.ReferenceIdeal.Read.val_main_v84, Cert.ReferenceIdeal.Read.val_main_v83, Cert.ReferenceIdeal.Read.val_main_c_13, Cert.ReferenceIdeal.Read.val_main_v77, Cert.ReferenceIdeal.Read.val_main_v76, Cert.ReferenceIdeal.Read.val_main_v72, Cert.ReferenceIdeal.Read.val_main_v71, Cert.ReferenceIdeal.Read.val_main_v75, Cert.ReferenceIdeal.Read.val_main_v74, Cert.ReferenceIdeal.Read.val_main_v73, Cert.ReferenceIdeal.Read.val_main_c_10, Cert.ReferenceIdeal.Read.val_main_v70, Cert.ReferenceIdeal.Read.val_main_v69, Cert.ReferenceIdeal.Read.val_main_v96, Cert.ReferenceIdeal.Read.val_main_c_18, Cert.ReferenceIdeal.Read.val_main_v101, Cert.ReferenceIdeal.Read.val_main_v100, Cert.ReferenceIdeal.Read.val_main_c_20, Cert.ReferenceIdeal.Read.val_main_v106, Cert.ReferenceIdeal.Read.val_main_v105, Cert.ReferenceIdeal.Read.val_main_c_22, Cert.ReferenceIdeal.Read.val_main_v104, Cert.ReferenceIdeal.Read.val_main_v103, Cert.ReferenceIdeal.Read.val_main_c_21]
  rfl

/-- The tables over the buffers before their last operations. -/
theorem tail_v91 (U : Valuation τ sig (Elt Ideal)) (f : Fin 2) (p : Fin 4) (r s : Fin 256) :
    after (List.flatten [hostOps0_7, hostOps0_8, hostOps0_9, hostOps0_10]) U main_v91 (ix4 f p r s) =
      if f.val < 1 then
        Scalar.select (U main_v81 (ix3 ⟨r.val % 128, by omega⟩ s 0))
          (U main_v80 (ix3 ⟨r.val % 128, by omega⟩ s ⟨p.val / 2 * 4 + r.val / 128 * 2 + p.val % 2, by omega⟩)) (U main_cst_17 ix0)
      else
        Scalar.select (U main_v73 (ix2 0 s))
          (Scalar.select (U main_v81 (ix3 ⟨r.val % 128, by omega⟩ s 0))
            (U main_v80 (ix3 ⟨r.val % 128, by omega⟩ s ⟨p.val / 2 * 4 + r.val / 128 * 2 + p.val % 2, by omega⟩)) (U main_cst_17 ix0))
          (Ideal.ofBits FTy.f32 0xF149F2CA#32) := by
  after_reads_at
  split <;> after_reads_at <;> rfl

/-- The table at an index. -/
theorem v91_at (f : Fin 2) (p : Fin 4) (r s : Fin 256) :
    V m c main_v91 (ix4 f p r s) =
      if (s.val ≤ r.val % 128 + 128 ∧ r.val % 128 < s.val) ∧ (f.val = 1 → 128 ≤ s.val) then
        W m c main_v80 (ix3 ⟨r.val % 128, by omega⟩ s ⟨p.val / 2 * 4 + r.val / 128 * 2 + p.val % 2, by omega⟩)
      else Ideal.ofBits .f32 0xF149F2CA#32 := by
  rw [V_eq, tail_v91, W_v81, W_v73, W_cst]
  generalize W m c main_v80 _ = y
  by_cases hb : s.val ≤ r.val % 128 + 128 ∧ r.val % 128 < s.val
  · by_cases hf : f.val < 1
    · rw [if_pos hf, if_pos ⟨hb, fun h => by omega⟩]
      exact (RV.select_ofBool _ _ _).trans (if_pos hb)
    · rw [if_neg hf]
      refine (RV.select_ofBool _ _ _).trans ?_
      by_cases hs : 128 ≤ s.val
      · rw [if_pos hs, if_pos ⟨hb, fun _ => hs⟩]
        exact (RV.select_ofBool _ _ _).trans (if_pos hb)
      · rw [if_neg hs, if_neg (fun h => hs (h.2 (by omega)))]
  · have hn : ¬((s.val ≤ r.val % 128 + 128 ∧ r.val % 128 < s.val) ∧ (f.val = 1 → 128 ≤ s.val)) := fun h => hb h.1
    rw [if_neg hn]
    by_cases hf : f.val < 1
    · rw [if_pos hf]
      exact (RV.select_ofBool _ _ _).trans (if_neg hb)
    · rw [if_neg hf]
      refine (RV.select_ofBool _ _ _).trans ?_
      by_cases hs : 128 ≤ s.val
      · rw [if_pos hs]
        exact (RV.select_ofBool _ _ _).trans (if_neg hb)
      · rw [if_neg hs]

end Cert.KV
-- ==== Proof.Tiles.lean ====
module

public import proofs.«01_k».proof.Proof.Sweep
public import proofs.«01_k».proof.Proof.Arr
public import proofs.«01_k».proof.Proof.Operands
public import proofs.«01_k».proof.Proof.Table

@[expose] public section

/-! Every tile reads the layer's arguments. -/

namespace Cert.KV

open Cert.KernelIdeal Cert.KernelIdeal.Gen Idealize.ShloMosaic Idealize.ShloMosaic.TcCoe Idealize.ShloMosaic.StableHlo Cert.Layer

theorem idx : ∀ t : Fin cfg0.N, win0_0.index t = ![0] ∧ win0_1.index t = ![t.val / 8, t.val % 8, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0, 0, 0] := by decide +kernel

theorem coord : ∀ t : Fin cfg0.N, (grid0.coords t 1).val = t.val % 8 := by decide +kernel

variable {m : (ℓ : Loc nD τ sig) → Buf (Elt Ideal) ℓ} {c : Dev nD} {A : Args}

theorem b1 (t : Fin cfg0.N) (y : S1x512x1024.Idx) (h0 : t.val / 8 < 4) (h1 : 512 * (t.val % 8) + (y 1).val < 4096) : iblk (F := Ideal) m c 1 t y
    = m ((c : Thread nD τ).loc main_arg0) (ix3 ⟨t.val / 8, h0⟩ ⟨512 * (t.val % 8) + (y 1).val, h1⟩ ⟨(y 2).val, (y 2).isLt⟩) := by
  have e := (idx t).2.1
  blk_simp [iblk, e]
  refine (congrFun (V_main_arg0 m c) _).trans (congrArg (m ((c : Thread nD τ).loc main_arg0)) ?_)
  blk_ext [e]

theorem b0 (t : Fin cfg0.N) (y : S8.Idx) : iblk (F := Ideal) m c 0 t y = V m c main_v4 y := by
  have e := (idx t).1
  blk_simp [iblk, e]
  refine congrArg (V m c main_v4) ?_
  blk_ext [e]

theorem b2 (t : Fin cfg0.N) (y : S1x1024.Idx) : iblk (F := Ideal) m c 2 t y = V m c main_v32 y := by
  have e := (idx t).2.2.1
  blk_simp [iblk, e]
  refine congrArg (V m c main_v32) ?_
  blk_ext [e]

theorem b3 (t : Fin cfg0.N) (y : S1024x2816.Idx) : iblk (F := Ideal) m c 3 t y = V m c main_v33 y := by
  have e := (idx t).2.2.2.1
  blk_simp [iblk, e]
  refine congrArg (V m c main_v33) ?_
  blk_ext [e]

theorem b4 (t : Fin cfg0.N) (y : S1x512.Idx) : iblk (F := Ideal) m c 4 t y = V m c main_v25 y := by
  have e := (idx t).2.2.2.2.1
  blk_simp [iblk, e]
  refine congrArg (V m c main_v25) ?_
  blk_ext [e]

theorem b5 (t : Fin cfg0.N) (y : S1x128.Idx) : iblk (F := Ideal) m c 5 t y = V m c main_v29 y := by
  have e := (idx t).2.2.2.2.2.1
  blk_simp [iblk, e]
  refine congrArg (V m c main_v29) ?_
  blk_ext [e]

theorem b6 (t : Fin cfg0.N) (y : S256x256.Idx) : iblk (F := Ideal) m c 6 t y = V m c main_v19 y := by
  have e := (idx t).2.2.2.2.2.2.1
  blk_simp [iblk, e]
  refine congrArg (V m c main_v19) ?_
  blk_ext [e]

theorem b7 (t : Fin cfg0.N) (y : S32x512.Idx) : iblk (F := Ideal) m c 7 t y = V m c main_v31 y := by
  have e := (idx t).2.2.2.2.2.2.2.1
  blk_simp [iblk, e]
  refine congrArg (V m c main_v31) ?_
  blk_ext [e]

theorem b8 (t : Fin cfg0.N) (y : S1x512.Idx) : iblk (F := Ideal) m c 8 t y = V m c main_v34 y := by
  have e := (idx t).2.2.2.2.2.2.2.2.1
  blk_simp [iblk, e]
  refine congrArg (V m c main_v34) ?_
  blk_ext [e]

theorem b9 (t : Fin cfg0.N) (y : S1x512.Idx) : iblk (F := Ideal) m c 9 t y = V m c main_v35 y := by
  have e := (idx t).2.2.2.2.2.2.2.2.2.1
  blk_simp [iblk, e]
  refine congrArg (V m c main_v35) ?_
  blk_ext [e]

theorem b10 (t : Fin cfg0.N) (y : S1x512.Idx) : iblk (F := Ideal) m c 10 t y = V m c main_v36 y := by
  have e := (idx t).2.2.2.2.2.2.2.2.2.2.1
  blk_simp [iblk, e]
  refine congrArg (V m c main_v36) ?_
  blk_ext [e]

theorem b11 (t : Fin cfg0.N) (y : S1024x1024.Idx) : iblk (F := Ideal) m c 11 t y = V m c main_v37 y := by
  have e := (idx t).2.2.2.2.2.2.2.2.2.2.2.1
  blk_simp [iblk, e]
  refine congrArg (V m c main_v37) ?_
  blk_ext [e]

theorem b12 (t : Fin cfg0.N) (y : S2x4x256x256.Idx) : iblk (F := Ideal) m c 12 t y = V m c main_v91 y := by
  have e := (idx t).2.2.2.2.2.2.2.2.2.2.2.2
  blk_simp [iblk, e]
  refine congrArg (V m c main_v91) ?_
  blk_ext [e]

/-- Every tile reads the arguments that the arrays hold. -/
theorem tiles_of (hA : Arr A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (W m c main_v80)) : Tiles A m c := by
  intro t
  have ht : t.val < 32 := lt_of_lt_of_eq t.isLt N_0
  constructor
  · exact ⟨t.val % 8, rfl⟩
  · rw [coord]; omega
  · intro y
    rw [b0]
    obtain ⟨a, rfl⟩ : ∃ a, y = ix1 a := ⟨y 0, eq_ix1 y⟩
    exact (v4_at m c a).trans (hA.SK _)
  · intro y
    have h1 : (y 1).val < 512 := (y 1).isLt
    rw [b1 t y (by omega) (by omega)]
    exact hA.X _
  · intro y
    rw [b2]
    obtain ⟨a, b, rfl⟩ : ∃ a b, y = ix2 a b := ⟨y 0, y 1, eq_ix2 y⟩
    exact (v32_at m c a b).trans (hA.NW _)
  · intro y
    rw [b3]
    obtain ⟨a, b, rfl⟩ : ∃ a b, y = ix2 a b := ⟨y 0, y 1, eq_ix2 y⟩
    exact (v33_at m c a b).trans (hA.W _)
  · intro y
    rw [b4]
    obtain ⟨a, b, rfl⟩ : ∃ a b, y = ix2 a b := ⟨y 0, y 1, eq_ix2 y⟩
    exact (v25_at m c a b).trans (congrArg (fun u : EReal => u * ((1 / 8 : ℝ) : EReal)) (hA.QW _))
  · intro y
    rw [b5]
    obtain ⟨a, b, rfl⟩ : ∃ a b, y = ix2 a b := ⟨y 0, y 1, eq_ix2 y⟩
    exact (v29_at m c a b).trans (hA.KW _)
  · intro y
    rw [b6]
    obtain ⟨a, b, rfl⟩ : ∃ a b, y = ix2 a b := ⟨y 0, y 1, eq_ix2 y⟩
    exact v19_at m c a b
  · intro y
    rw [b7]
    obtain ⟨a, b, rfl⟩ : ∃ a b, y = ix2 a b := ⟨y 0, y 1, eq_ix2 y⟩
    refine (v31_at m c a b).trans ?_
    by_cases h : a.val < 31
    · rw [dif_pos h]
      exact hA.DW _
    · rw [dif_neg h]
      have ha : a.val = 31 := by omega
      show 0 = A.DW a.val b.val
      rw [ha, hA.DW31]
  · intro y
    rw [b8]
    obtain ⟨a, b, rfl⟩ : ∃ a b, y = ix2 a b := ⟨y 0, y 1, eq_ix2 y⟩
    exact (v34_at m c a b).trans (hA.DB _)
  · intro y
    rw [b9]
    obtain ⟨a, b, rfl⟩ : ∃ a b, y = ix2 a b := ⟨y 0, y 1, eq_ix2 y⟩
    exact (v35_at m c a b).trans (hA.LW _)
  · intro y
    rw [b10]
    obtain ⟨a, b, rfl⟩ : ∃ a b, y = ix2 a b := ⟨y 0, y 1, eq_ix2 y⟩
    exact (v36_at m c a b).trans (hA.LB _)
  · intro y
    rw [b11]
    obtain ⟨a, b, rfl⟩ : ∃ a b, y = ix2 a b := ⟨y 0, y 1, eq_ix2 y⟩
    exact (v37_at m c a b).trans (hA.WO _)
  · intro y
    rw [b12]
    obtain ⟨f, p, r, s, rfl⟩ : ∃ f p r s, y = ix4 f p r s := ⟨y 0, y 1, y 2, y 3, eq_ix4 y⟩
    have e := hA.BT (decide (f.val = 1)) ⟨4 * (p.val / 2) + 2 * (r.val / 128) + p.val % 2, by omega⟩ ⟨r.val % 128, by omega⟩ s
    simp only [decide_eq_true_eq] at e
    refine (v91_at m c f p r s).trans (Eq.trans ?_ e.symm)
    refine if_congr Iff.rfl (congrArg (W m c main_v80) (congrArg (ix3 _ _) (Fin.ext ?_))) rfl
    show p.val / 2 * 4 + r.val / 128 * 2 + p.val % 2 = 4 * (p.val / 2) + 2 * (r.val / 128) + p.val % 2
    omega

end Cert.KV
-- ==== Proof.RefB.lean ====
module

public import proofs.«01_k».proof.Proof.Words

@[expose] public section

/-! The reference's attention, in the layer's terms. -/

namespace Cert.RV

open Cert.ReferenceIdeal Cert.ReferenceIdeal.Read Idealize.ShloMosaic Idealize.ShloMosaic.TcCoe Cert.Layer

variable {A : Args} {x0 : Vec Ideal S4x4096x1024 .f32} {x1 : Vec Ideal S1x1024 .f32} {x2 : Vec Ideal S1x1024x2816 .f32}
    {x3 x4 : Vec Ideal S1x64 .f32} {x5 : Vec Ideal S1x8 .f32} {x6 : Vec Ideal S1x31x512 .f32} {x7 x8 x9 : Vec Ideal S1x512 .f32}
    {x10 : Vec Ideal S1x1024x1024 .f32} {x11 : Vec Ideal S32x8 .f32}
    (hA : Arr A x0 x1 x2 x3 x4 x5 x6 x7 x8 x9 x10 (val_main_v109 (F := Ideal) x11))

include hA

theorem v54_at (a : Fin 4) (k : Fin 32) (q : Fin 128) (g : Fin 2) (n : Fin 4) (d : Fin 64) :
    val_main_v54 (F := Ideal) x0 x1 x2 x3 (ix6 a k q g n d) = qn A a (128 * k + q) (4 * g + n) d := by
  have h36 := v36_at hA
  simp only [val_main_v54]
  generalize val_main_v36 (F := Ideal) x0 x1 x2 x3 = y at h36 ⊢
  pointwise
  rw [h36]
  exact congrArg (fun t => qn A a.val t (4 * g.val + n.val) d.val) (by dsimp only; omega)

theorem v61_at (a : Fin 4) (k : Fin 32) (s : Fin 256) (g : Fin 2) (d : Fin 64) :
    val_main_v61 (F := Ideal) x0 x1 x2 x4 (ix5 a k s g d) = kp A a (128 * k + s) g d := by
  have h55 := v55_at hA
  simp only [val_main_v61, val_main_v60, val_main_v59, val_main_v56]
  pointwise
  split <;> rw [h55] <;> refine congrArg (fun t => kp A a.val t g.val d.val) ?_ <;> dsimp only <;> omega

theorem v64_at (a : Fin 4) (k : Fin 32) (s : Fin 256) (g : Fin 2) (d : Fin 64) :
    val_main_v64 (F := Ideal) x0 x1 x2 (ix5 a k s g d) = vp A a (128 * k + s) g d := by
  have h57 := v57_at hA
  simp only [val_main_v64, val_main_v63, val_main_v62, val_main_v58]
  pointwise
  split <;> rw [h57] <;> refine congrArg (fun t => vp A a.val t g.val d.val) ?_ <;> dsimp only <;> omega

theorem v68_at (a : Fin 4) (k : Fin 32) (g : Fin 2) (n : Fin 4) (q : Fin 128) (s : Fin 256) :
    val_main_v68 (F := Ideal) x0 x1 x2 x3 x4 (ix6 a k g n q s)
      = (∑ d : Fin 64, qn A a (128 * k + q) (4 * g + n) d * kp A a (128 * k + s) g d) * ((1 / 8 : ℝ) : EReal) := by
  have h54 := v54_at hA
  have h61 := v61_at hA
  simp only [val_main_v68, val_main_v67, val_main_v66, val_main_v65, val_main_cst_9]
  generalize val_main_v54 (F := Ideal) x0 x1 x2 x3 = y at h54 ⊢
  generalize val_main_v61 (F := Ideal) x0 x1 x2 x4 = z at h61 ⊢
  pointwise
  simp only [h54, h61, KV.lit_8]
  exact congrArg (· * _) (Finset.sum_congr rfl fun d _ => mul_comm _ _)

omit hA in
theorem v82_at (q : Fin 128) (s : Fin 256) :
    val_main_v82 (F := Ideal) (ix2 q s) = BitVec.ofBool (decide (s.val ≤ q.val + 128 ∧ q.val < s.val)) := by
  simp only [val_main_v82, val_main_v81, val_main_v80, val_main_v79, val_main_v78, val_main_v77, val_main_v76, val_main_v75, val_main_v74, val_main_v73, val_main_v72, val_main_v71, val_main_v70, val_main_v69, val_main_c_10, val_main_c_11, val_main_c_12]
  pointwise
  exact band_word q.isLt s.isLt

omit hA in
theorem v121_at (k : Fin 32) (s : Fin 256) :
    val_main_v121 (F := Ideal) (ix3 k 0 s) = BitVec.ofBool (decide (k.val = 0 → 128 ≤ s.val)) := by
  simp only [val_main_v121, val_main_v120, val_main_v119, val_main_v118, val_main_v117, val_main_v116, val_main_v115, val_main_v114, val_main_v113, val_main_v112, val_main_c_23, val_main_c_24, val_main_v72, val_main_v71]
  pointwise
  exact valid_word k.isLt s.isLt

theorem v129_at (a : Fin 4) (k : Fin 32) (g : Fin 2) (n : Fin 4) (q : Fin 128) (s : Fin 256) :
    val_main_v129 (F := Ideal) x11 (ix6 a k g n q s) = A.BT (decide (k.val = 0)) (4 * g + n) q s := by
  have h82 := v82_at
  have h121 := v121_at
  simp only [val_main_v129, val_main_v128, val_main_call3_v3, val_main_call3_v2, val_main_call3_v1, val_main_call3_v0, val_main_v127, val_main_v126, val_main_v125, val_main_v124, val_main_v123, val_main_v122, val_main_v111, val_main_v110, val_main_cst_25]
  generalize val_main_v82 (F := Ideal) = y at h82 ⊢
  generalize val_main_v121 (F := Ideal) = z at h121 ⊢
  generalize val_main_v109 (F := Ideal) x11 = G at hA ⊢
  pointwise
  rw [h82, h121]
  have e1 : ∀ u v : EReal, Scalar.select (IntOp.andi (BitVec.ofBool (decide (s.val ≤ q.val + 128 ∧ q.val < s.val))) (BitVec.ofBool (decide (k.val = 0 → 128 ≤ s.val)))) u v
      = if (s.val ≤ q.val + 128 ∧ q.val < s.val) ∧ (k.val = 0 → 128 ≤ s.val) then u else v := fun u v => by
    rw [ofBool_and, select_ofBool]
  refine (e1 _ _).trans ?_
  have e := hA.BT (decide (k.val = 0)) ⟨4 * g.val + n.val, by omega⟩ q s
  simp only [decide_eq_true_eq] at e
  rw [e]
  refine if_congr Iff.rfl (congrArg G (congrArg (ix3 q s) (Fin.ext ?_))) rfl
  dsimp only
  omega

theorem v130_at (a : Fin 4) (k : Fin 32) (g : Fin 2) (n : Fin 4) (q : Fin 128) (s : Fin 256) :
    val_main_v130 (F := Ideal) x0 x1 x2 x3 x4 x11 (ix6 a k g n q s) = lo A a k (4 * g + n) q s := by
  have h68 := v68_at hA
  have h129 := v129_at hA
  simp only [val_main_v130]
  generalize val_main_v68 (F := Ideal) x0 x1 x2 x3 x4 = y at h68 ⊢
  generalize val_main_v129 (F := Ideal) x11 = z at h129 ⊢
  pointwise
  rw [h68, h129]
  unfold lo
  rw [show (4 * g.val + n.val) / 4 = g.val by omega]

end Cert.RV
-- ==== Proof.RefB2.lean ====
module

public import proofs.«01_k».proof.Proof.RefB
public import Idealize.ShloMosaic.Lib.KernelVsHost

@[expose] public section

/-! The reference's softmax and the attention's gated output, in the layer's terms. -/

namespace Cert.RV

open Cert.ReferenceIdeal Cert.ReferenceIdeal.Read Idealize.ShloMosaic Idealize.ShloMosaic.TcCoe Cert.Layer

variable {A : Args} {x0 : Vec Ideal S4x4096x1024 .f32} {x1 : Vec Ideal S1x1024 .f32} {x2 : Vec Ideal S1x1024x2816 .f32}
    {x3 x4 : Vec Ideal S1x64 .f32} {x5 : Vec Ideal S1x8 .f32} {x6 : Vec Ideal S1x31x512 .f32} {x7 x8 x9 : Vec Ideal S1x512 .f32}
    {x10 : Vec Ideal S1x1024x1024 .f32} {x11 : Vec Ideal S32x8 .f32}
    (hA : Arr A x0 x1 x2 x3 x4 x5 x6 x7 x8 x9 x10 (val_main_v109 (F := Ideal) x11))

include hA

omit hA in
theorem red6 : S4x32x2x4x128x256.Reduces [5] S4x32x2x4x128 := ⟨rfl, by decide, Gen.reducesTo_S4x32x2x4x128x256_S4x32x2x4x128_d5.2⟩

omit hA in
theorem lift6 (a : Fin 4) (k : Fin 32) (g : Fin 2) (n : Fin 4) (q : Fin 128) (s : Fin 256) :
    red6.lift (ix5 a k g n q) s = ix6 a k g n q s := by
  funext b
  fin_cases b <;> rfl

omit hA in
theorem max6 (y : S4x32x2x4x128x256.Idx → EReal) (e : S_.Idx → EReal) (a : Fin 4) (k : Fin 32) (g : Fin 2) (n : Fin 4) (q : Fin 128) :
    Host.reduce (max : EReal → EReal → EReal) y e Gen.reducesTo_S4x32x2x4x128x256_S4x32x2x4x128_d5 Gen.h_S_ (ix5 a k g n q)
      = (Finset.univ : Finset (Fin 256)).fold max (e (Shape.Idx.first Gen.h_S_)) fun s => y (ix6 a k g n q s) := by
  rw [Host.reduce_eq_fold]
  rw [Shape.ReducesTo.drop_eq_drop Gen.reducesTo_S4x32x2x4x128x256_S4x32x2x4x128_d5 red6]
  refine (red6.fold_filter_drop_single _ _ _ _).trans ?_
  exact Finset.fold_congr fun s _ => congrArg y (lift6 a k g n q s)

omit hA in
theorem sum6 (y : Vec Ideal S4x32x2x4x128x256 .f32) (e : EReal) (a : Fin 4) (k : Fin 32) (g : Fin 2) (n : Fin 4) (q : Fin 128) :
    Ideal.hostReduceAdd Gen.reducesTo_S4x32x2x4x128x256_S4x32x2x4x128_d5 y e (ix5 a k g n q) = e + ∑ s : Fin 256, y (ix6 a k g n q s) := by
  rw [Ideal.hostReduceAdd_single _ red6]
  exact congrArg (e + ·) (Finset.sum_congr rfl fun s _ => congrArg y (lift6 a k g n q s))

theorem v132_at (a : Fin 4) (k : Fin 32) (g : Fin 2) (n : Fin 4) (q : Fin 128) : val_main_v132 (F := Ideal) x0 x1 x2 x3 x4 x11 (ix5 a k g n q)
    = (Finset.univ : Finset (Fin 256)).fold max (⊥ : EReal) fun s : Fin 256 => lo A a k (4 * g + n) q s := by
  have h130 := v130_at hA
  unfold val_main_v132 val_main_cst_26
  generalize val_main_v130 (F := Ideal) x0 x1 x2 x3 x4 x11 = y at h130 ⊢
  refine (max6 y _ a k g n q).trans ?_
  rw [show (constant (F := Ideal) S_ .f32 0xFF800000#32 (Shape.Idx.first Gen.h_S_) : EReal) = ⊥ from KV.lit_ninf]
  exact Finset.fold_congr fun s _ => h130 a k g n q s

theorem v131_at (g : Fin 2) (n : Fin 4) : val_main_v131 (F := Ideal) x5 (ix6 0 0 g n 0 0) = A.SK (4 * g + n) := by
  simp only [val_main_v131, val_main_v53]
  pointwise
  rw [hA.SK]
  exact congrArg A.SK (by show g.val * 4 + n.val = _; omega)

omit hA in
theorem v133_at (a : Fin 4) (k : Fin 32) (g : Fin 2) (n : Fin 4) (q : Fin 128) :
    val_main_v133 (F := Ideal) x0 x1 x2 x3 x4 x11 (ix6 a k g n q 0) = val_main_v132 (F := Ideal) x0 x1 x2 x3 x4 x11 (ix5 a k g n q) := by
  simp only [val_main_v133]
  generalize val_main_v132 (F := Ideal) x0 x1 x2 x3 x4 x11 = y
  pointwise

omit hA in
theorem v134_at (a : Fin 4) (k : Fin 32) (g : Fin 2) (n : Fin 4) (q : Fin 128) :
    val_main_v134 (F := Ideal) x5 (ix6 a k g n q 0) = val_main_v131 (F := Ideal) x5 (ix6 0 0 g n 0 0) := by
  simp only [val_main_v134]
  generalize val_main_v131 (F := Ideal) x5 = y
  pointwise

theorem v135_at (a : Fin 4) (k : Fin 32) (g : Fin 2) (n : Fin 4) (q : Fin 128) :
    val_main_v135 (F := Ideal) x0 x1 x2 x3 x4 x5 x11 (ix6 a k g n q 0) = mx A a k (4 * g + n) q := by
  rw [val_main_v135_apply, v133_at, v134_at, v132_at hA, v131_at hA]
  rfl

theorem v140_at (a : Fin 4) (k : Fin 32) (g : Fin 2) (n : Fin 4) (q : Fin 128) (s : Fin 256) :
    val_main_v140 (F := Ideal) x0 x1 x2 x3 x4 x5 x11 (ix6 a k g n q s) = pm A a k (4 * g + n) q s := by
  have h130 := v130_at hA
  have h135 := v135_at hA
  have h121 := v121_at
  simp only [val_main_v140, val_main_call4_v2, val_main_call4_v1, val_main_call4_v0, val_main_v139, val_main_v138, val_main_v137, val_main_v136, val_main_cst_27]
  generalize val_main_v130 (F := Ideal) x0 x1 x2 x3 x4 x11 = y at h130 ⊢
  generalize val_main_v135 (F := Ideal) x0 x1 x2 x3 x4 x5 x11 = z at h135 ⊢
  generalize val_main_v121 (F := Ideal) = w at h121 ⊢
  pointwise
  rw [h130, h135, h121]
  refine (select_ofBool _ _ _).trans ?_
  unfold pm
  by_cases hk : k.val = 0 → 128 ≤ s.val
  · rw [if_pos hk, if_neg (by omega)]
  · rw [if_neg hk, if_pos (by omega)]
    exact Ideal.ofBits_zero_f32

theorem v146_at (a : Fin 4) (k : Fin 32) (g : Fin 2) (n : Fin 4) (q : Fin 128) :
    val_main_v146 (F := Ideal) x0 x1 x2 x3 x4 x5 x11 (ix6 a k g n q 0) = den A a k (4 * g + n) q := by
  have h140 := v140_at hA
  have h135 := v135_at hA
  have h131 := v131_at hA
  have h141 : ∀ (a : Fin 4) (k : Fin 32) (g : Fin 2) (n : Fin 4) (q : Fin 128), val_main_v141 (F := Ideal) x0 x1 x2 x3 x4 x5 x11 (ix5 a k g n q)
      = ∑ s : Fin 256, pm A a k (4 * g + n) q s := fun a k g n q => by
    unfold val_main_v141 val_main_cst_28
    generalize val_main_v140 (F := Ideal) x0 x1 x2 x3 x4 x5 x11 = y at h140 ⊢
    refine (sum6 y _ a k g n q).trans ?_
    rw [show (constant (F := Ideal) S_ .f32 0x00000000#32 (Shape.Idx.first Gen.h_S_) : EReal) = 0 from Ideal.ofBits_zero_f32, zero_add]
    exact Finset.sum_congr rfl fun s _ => h140 a k g n q s
  simp only [val_main_v146, val_main_v145, val_main_v144, val_main_v143, val_main_v142]
  generalize val_main_v141 (F := Ideal) x0 x1 x2 x3 x4 x5 x11 = y at h141 ⊢
  generalize val_main_v135 (F := Ideal) x0 x1 x2 x3 x4 x5 x11 = z at h135 ⊢
  generalize val_main_v131 (F := Ideal) x5 = w at h131 ⊢
  pointwise
  rw [h141, h135, h131]
  rfl

theorem v149_at (a : Fin 4) (k : Fin 32) (g : Fin 2) (d : Fin 64) (n : Fin 4) (q : Fin 128) :
    val_main_v149 (F := Ideal) x0 x1 x2 x3 x4 x5 x11 (ix6 a k g d n q) = att A a k (4 * g + n) q d := by
  have h140 := v140_at hA
  have h146 := v146_at hA
  have h64 := v64_at hA
  simp only [val_main_v149, val_main_v148, val_main_v147]
  generalize val_main_v140 (F := Ideal) x0 x1 x2 x3 x4 x5 x11 = y at h140 ⊢
  generalize val_main_v146 (F := Ideal) x0 x1 x2 x3 x4 x5 x11 = z at h146 ⊢
  generalize val_main_v64 (F := Ideal) x0 x1 x2 = w at h64 ⊢
  pointwise
  unfold att
  refine Finset.sum_congr rfl fun s _ => ?_
  rw [h140, h146, h64, show (4 * g.val + n.val) / 4 = g.val by omega]
  exact mul_comm _ _

end Cert.RV
-- ==== Proof.RefB3.lean ====
module

public import proofs.«01_k».proof.Proof.RefB2

@[expose] public section

/-! The attention's gated output, in the layer's terms. -/

namespace Cert.RV

open Cert.ReferenceIdeal Cert.ReferenceIdeal.Read Idealize.ShloMosaic Idealize.ShloMosaic.TcCoe Cert.Layer

variable {A : Args} {x0 : Vec Ideal S4x4096x1024 .f32} {x1 : Vec Ideal S1x1024 .f32} {x2 : Vec Ideal S1x1024x2816 .f32}
    {x3 x4 : Vec Ideal S1x64 .f32} {x5 : Vec Ideal S1x8 .f32} {x6 : Vec Ideal S1x31x512 .f32} {x7 x8 x9 : Vec Ideal S1x512 .f32}
    {x10 : Vec Ideal S1x1024x1024 .f32} {x11 : Vec Ideal S32x8 .f32}
    (hA : Arr A x0 x1 x2 x3 x4 x5 x6 x7 x8 x9 x10 (val_main_v109 (F := Ideal) x11))

include hA

theorem v153_at (a : Fin 4) (r : Fin 4096) (c : Fin 512) :
    val_main_v153 (F := Ideal) x0 x1 x2 x3 x4 x5 x11 (ix3 a r c) = ya A a r c := by
  have h149 := v149_at hA
  have h152 := v152_at hA
  simp only [val_main_v153, val_main_v151, val_main_v150]
  generalize val_main_v149 (F := Ideal) x0 x1 x2 x3 x4 x5 x11 = y at h149 ⊢
  generalize val_main_v152 (F := Ideal) x0 x1 x2 = z at h152 ⊢
  pointwise
  rw [h149, h152]
  unfold ya
  show att A a (r.val / 128) (4 * (c.val / 256) + c.val / 64 % 4) (r.val % 128) (c.val % 64) * _ = _
  rw [show 4 * (c.val / 256) + c.val / 64 % 4 = c.val / 64 by omega]

end Cert.RV
-- ==== Proof.RefC.lean ====
module

public import proofs.«01_k».proof.Proof.RefA

@[expose] public section

/-! The reference's convolution and its normalisation, in the layer's terms. -/

namespace Cert.RV

open Cert.ReferenceIdeal Cert.ReferenceIdeal.Read Idealize.ShloMosaic Idealize.ShloMosaic.TcCoe Cert.Layer

variable {A : Args} {x0 : Vec Ideal S4x4096x1024 .f32} {x1 : Vec Ideal S1x1024 .f32} {x2 : Vec Ideal S1x1024x2816 .f32}
    {x3 x4 : Vec Ideal S1x64 .f32} {x5 : Vec Ideal S1x8 .f32} {x6 : Vec Ideal S1x31x512 .f32} {x7 x8 x9 : Vec Ideal S1x512 .f32}
    {x10 : Vec Ideal S1x1024x1024 .f32} {G : Vec Ideal S128x256x8 .f32}
    (hA : Arr A x0 x1 x2 x3 x4 x5 x6 x7 x8 x9 x10 G)

include hA

omit hA in
/-- One tap of the convolution: the row of weights times the shifted array, added. -/
theorem tap {f : ℕ → ℕ → ℕ → ℕ → EReal} {j : ℕ} (hj : j < 31) {d : Vec Ideal S31x512 .f32} {u : Vec Ideal S4x4126x512 .f32} {acc : Vec Ideal S4x4096x512 .f32}
    (h1 : S31x512.Slices ![j, 0] S1x512) (h2 : S4x4126x512.Slices ![0, j, 0] S4x4096x512)
    (hf : ∀ (a : Fin 4) (r : Fin 4096) (c : Fin 512), d (ix2 ⟨j, hj⟩ c) * u (ix3 a ⟨r.val + j, by omega⟩ c) = f a r c j)
    (hacc : ∀ (a : Fin 4) (r : Fin 4096) (c : Fin 512), acc (ix3 a r c) = chain (f a r c) j) (a : Fin 4) (r : Fin 4096) (c : Fin 512) :
    addf (F := Ideal) (φ := .f32) acc (mulf (broadcastInDim S4x4096x512 ![0, 1, 2] Gen.bcast_S1x1x512_S4x4096x512_0_1_2 (broadcastInDim S1x1x512 ![2] Gen.bcast_S512_S1x1x512_2
      (shapeCast S512 (extractStridedSlice S1x512 ![j, 0] d h1) Gen.shapeCasts_S1x512_S512))) (extractStridedSlice S4x4096x512 ![0, j, 0] u h2)) (ix3 a r c)
      = chain (f a r c) (j + 1) := by
  pointwise
  rw [hacc]
  have e := hf a r c
  simp only [Nat.add_comm r.val j] at e
  exact congrArg (chain (f a.val r.val c.val) j + ·) e

theorem v385_at (a : Fin 4) (r : Fin 4096) (c : Fin 512) :
    val_main_v385 (F := Ideal) x0 x1 x2 x6 (ix3 a r c) = chain (fun j => A.DW j c * up A a (r + j) c) 31 := by
  have h154 : ∀ (j : Fin 31) (c : Fin 512), val_main_v154 (F := Ideal) x6 (ix2 j c) = A.DW j c := fun j c => by
    simp only [val_main_v154]
    pointwise
    exact hA.DW _
  have h167 := v167_at hA
  simp only [val_main_v385, val_main_v384, val_main_v383, val_main_v382, val_main_v381, val_main_v380, val_main_v379, val_main_v378, val_main_v377, val_main_v376, val_main_v375, val_main_v374, val_main_v373, val_main_v372, val_main_v371, val_main_v370, val_main_v369, val_main_v368, val_main_v367, val_main_v366, val_main_v365, val_main_v364, val_main_v363, val_main_v362, val_main_v361, val_main_v360, val_main_v359, val_main_v358, val_main_v357, val_main_v356, val_main_v355, val_main_v354, val_main_v353, val_main_v352, val_main_v351, val_main_v350, val_main_v349, val_main_v348, val_main_v347, val_main_v346, val_main_v345, val_main_v344, val_main_v343, val_main_v342, val_main_v341, val_main_v340, val_main_v339, val_main_v338, val_main_v337, val_main_v336, val_main_v335, val_main_v334, val_main_v333, val_main_v332, val_main_v331, val_main_v330, val_main_v329, val_main_v328, val_main_v327, val_main_v326, val_main_v325, val_main_v324, val_main_v323, val_main_v322, val_main_v321, val_main_v320, val_main_v319, val_main_v318, val_main_v317, val_main_v316, val_main_v315, val_main_v314, val_main_v313, val_main_v312, val_main_v311, val_main_v310, val_main_v309, val_main_v308, val_main_v307, val_main_v306, val_main_v305, val_main_v304, val_main_v303, val_main_v302, val_main_v301, val_main_v300, val_main_v299, val_main_v298, val_main_v297, val_main_v296, val_main_v295, val_main_v294, val_main_v293, val_main_v292, val_main_v291, val_main_v290, val_main_v289, val_main_v288, val_main_v287, val_main_v286, val_main_v285, val_main_v284, val_main_v283, val_main_v282, val_main_v281, val_main_v280, val_main_v279, val_main_v278, val_main_v277, val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_cst_32]
  generalize val_main_v154 (F := Ideal) x6 = d at h154 ⊢
  generalize val_main_v167 (F := Ideal) x0 x1 x2 = u at h167 ⊢
  revert a r c
  repeat refine tap (f := fun a r c j => A.DW j c * up A a (r + j) c) (by norm_num) _ _ (fun a r c => by rw [h154, h167]) ?_
  intro a r c
  pointwise
  rfl

theorem v388_at (a : Fin 4) (r : Fin 4096) (c : Fin 512) : val_main_v388 (F := Ideal) x0 x1 x2 x6 x7 (ix3 a r c) = cv A a r c := by
  have h385 := v385_at hA
  simp only [val_main_v388, val_main_v387, val_main_v386, val_main_v155]
  generalize val_main_v385 (F := Ideal) x0 x1 x2 x6 = y at h385 ⊢
  pointwise
  simp only [h385, hA.DB]
  rfl

theorem v394_at (a : Fin 4) (r : Fin 4096) (c : Fin 512) : val_main_v394 (F := Ideal) x0 x1 x2 x6 x7 (ix3 a r c) = dv A a r c := by
  have h388 := v388_at hA
  simp only [val_main_v394, val_main_v393, val_main_v392, val_main_v391, val_main_v390, val_main_v389, val_main_cst_33, val_main_cst_34]
  generalize val_main_v388 (F := Ideal) x0 x1 x2 x6 x7 = y at h388 ⊢
  pointwise
  simp only [h388, div_512]
  rfl

theorem v415_at (a : Fin 4) (r : Fin 4096) (c : Fin 512) :
    val_main_v415 (F := Ideal) x0 x1 x2 x6 x7 x8 x9 (ix3 a r c) = yc A a r c := by
  have h394 := v394_at hA
  have h414 := v414_at hA
  have e401 : val_main_v401 (F := Ideal) x0 x1 x2 x6 x7 = val_main_v394 (F := Ideal) x0 x1 x2 x6 x7 := rfl
  have h412 : ∀ (a : Fin 4) (r : Fin 4096) (c : Fin 512), val_main_v412 (F := Ideal) x0 x1 x2 x6 x7 x8 x9 (ix3 a r c) = yn A a r c := fun a r c => by
    simp only [val_main_v412, val_main_v411, val_main_v410, val_main_v409, val_main_v408, val_main_v407, val_main_v406, val_main_v405, val_main_v404, val_main_v403, val_main_v402, e401, val_main_v399, val_main_v398, val_main_v397, val_main_v396, val_main_v395, val_main_v156, val_main_v157, val_main_cst_35, val_main_cst_36, val_main_cst_37]
    generalize val_main_v394 (F := Ideal) x0 x1 x2 x6 x7 = y at h394 ⊢
    pointwise
    simp only [h394, hA.LW, hA.LB, div_512]
    rfl
  simp only [val_main_v415, val_main_v413, val_main_call7_v5, val_main_call7_v4, val_main_call7_v3, val_main_call7_v2, val_main_call7_v1, val_main_call7_v0, val_main_call7_cst, val_main_call7_cst_0]
  generalize val_main_v412 (F := Ideal) x0 x1 x2 x6 x7 x8 x9 = y at h412 ⊢
  generalize val_main_v414 (F := Ideal) x0 x1 x2 = z at h414 ⊢
  pointwise
  simp only [h412, h414, KV.lit_1]
  rfl

end Cert.RV
-- ==== Proof.RefD.lean ====
module

public import proofs.«01_k».proof.Proof.RefB3
public import proofs.«01_k».proof.Proof.RefC

@[expose] public section

/-! The reference's result, in the layer's terms. -/

namespace Cert.RV

open Cert.ReferenceIdeal Cert.ReferenceIdeal.Read Idealize.ShloMosaic Idealize.ShloMosaic.TcCoe Cert.Layer

variable {A : Args} {x0 : Vec Ideal S4x4096x1024 .f32} {x1 : Vec Ideal S1x1024 .f32} {x2 : Vec Ideal S1x1024x2816 .f32}
    {x3 x4 : Vec Ideal S1x64 .f32} {x5 : Vec Ideal S1x8 .f32} {x6 : Vec Ideal S1x31x512 .f32} {x7 x8 x9 : Vec Ideal S1x512 .f32}
    {x10 : Vec Ideal S1x1024x1024 .f32} {x11 : Vec Ideal S32x8 .f32}
    (hA : Arr A x0 x1 x2 x3 x4 x5 x6 x7 x8 x9 x10 (val_main_v109 (F := Ideal) x11))

include hA

theorem v416_at (a : Fin 4) (r : Fin 4096) (c : Fin 1024) :
    val_main_v416 (F := Ideal) x0 x1 x2 x3 x4 x5 x6 x7 x8 x9 x11 (ix3 a r c) = yy A a r c := by
  have h153 := v153_at hA
  have h415 := v415_at hA
  simp only [val_main_v416]
  pointwise
  unfold yy
  split <;> simp only [h153, h415]

/-- The reference's result at an index is the layer's. -/
theorem result (a : Fin 4) (r : Fin 4096) (n : Fin 1024) :
    val_main_v419 (F := Ideal) x0 x1 x2 x3 x4 x5 x6 x7 x8 x9 x10 x11 (ix3 a r n) = out A a r n := by
  have h416 := v416_at hA
  simp only [val_main_v419, val_main_v418, val_main_v417]
  generalize val_main_v416 (F := Ideal) x0 x1 x2 x3 x4 x5 x6 x7 x8 x9 x11 = y at h416 ⊢
  pointwise
  simp only [h416, hA.X, hA.WO]
  rfl

end Cert.RV
-- ==== Proof.Finite.lean ====
module

public import proofs.«01_k».proof.Pre_finite_weights
public import proofs.«01_k».proof.Proof.Arr
public import proofs.«01_k».proof.Proof.Gen.ReferenceIdeal.Read
public import Idealize.ShloMosaic.Lib.ReduceAll
public import Idealize.ShloMosaic.Lib.Affine

@[expose] public section

/-! What the precondition says: the norm weights, the sinks and the position biases are real numbers. -/

namespace Cert.Layer

open Idealize.ShloMosaic Cert.Pre_finite_weights

instance preFacts : Cert.Pre_finite_weights.Facts where
  bcast_S_S1x64 := by decide
  reducesTo_S1x64_S_d0_1 := by decide
  h_S_ := by decide
  bcast_S_S1x8 := by decide
  reducesTo_S1x8_S_d0_1 := by decide
  bcast_S_S32x8 := by decide
  reducesTo_S32x8_S_d0_1 := by decide

/-- A value whose magnitude is below infinity is a real number. -/
theorem real_of_olt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  apply exists_real
  · rintro rfl
    simp [Ideal.cmp] at h
  · rintro rfl
    simp [Ideal.cmp] at h

/-- An array all of whose magnitudes are below infinity holds real numbers. -/
theorem all_real {s : Shape} {axes : List (Fin s.rank)} (x : FVec Ideal s .f32) (hb : S_.BroadcastsInDim s (![] : Fin 0 → Fin s.rank)) (hr : s.ReducesTo axes S_)
    (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, (x i : EReal) = r := by
  haveI : Subsingleton S_.Idx := ⟨fun a b => funext fun k => k.elim0⟩
  exact real_of_olt _ (Host.reduce_andi_all _ _ hr hu j e i)

theorem low_real : ∃ r : ℝ, low = r := by
  unfold low
  apply exists_real
  · simp [Ideal.ofBits, Ideal.ieee]
    exact_mod_cast EReal.coe_ne_bot (13234890 * 2 ^ 76)
  · simp [Ideal.ofBits, Ideal.ieee]
    exact_mod_cast EReal.coe_ne_top (13234890 * 2 ^ 76)

variable {x0 : Vec Ideal Cert.KernelIdeal.S4x4096x1024 .f32} {x1 : Vec Ideal Cert.KernelIdeal.S1x1024 .f32} {x2 : Vec Ideal Cert.KernelIdeal.S1x1024x2816 .f32}
  {x3 x4 : Vec Ideal Cert.KernelIdeal.S1x64 .f32} {x5 : Vec Ideal Cert.KernelIdeal.S1x8 .f32} {x6 : Vec Ideal Cert.KernelIdeal.S1x31x512 .f32}
  {x7 x8 x9 : Vec Ideal Cert.KernelIdeal.S1x512 .f32} {x10 : Vec Ideal Cert.KernelIdeal.S1x1024x1024 .f32} {x11 : Vec Ideal Cert.KernelIdeal.S32x8 .f32}

/-- The precondition gives the finiteness that the softmax asks for. -/
theorem fin_of_pre (h : Cert.Pre_finite_weights.fn (F := Ideal) x0 x1 x2 x3 x4 x5 x6 x7 x8 x9 x10 x11 = fun _ => 1#1) :
    FinArgs (argsOf x0 x1 x2 x3 x4 x5 x6 x7 x8 x9 x10 (Cert.ReferenceIdeal.Read.val_main_v109 (F := Ideal) x11)) := by
  have e := congrFun h (fun k => k.elim0)
  dsimp only [Cert.Pre_finite_weights.fn, Cert.Pre_finite_weights.fn_part1, andi] at e
  obtain ⟨e, e11⟩ := IntOp.andi_eq_one.1 e
  obtain ⟨e, e5⟩ := IntOp.andi_eq_one.1 e
  obtain ⟨e3, e4⟩ := IntOp.andi_eq_one.1 e
  refine ⟨fun d _ => all_real x3 _ _ _ _ e3 _, fun d _ => all_real x4 _ _ _ _ e4 _, fun n _ => all_real x5 _ _ _ _ e5 _, fun f n _ q _ s _ => ?_⟩
  dsimp only [argsOf]
  split
  · exact all_real x11 _ _ _ _ e11 _
  · exact low_real

end Cert.Layer
-- ==== Proof.Equal.lean ====
module

public import proofs.«01_k».proof.Defs
public import proofs.«01_k».proof.Proof.Tiles
public import proofs.«01_k».proof.Proof.RefD
public import proofs.«01_k».proof.Proof.Finite

@[expose] public section

/-! The kernel's result and the reference's, on the same arguments. -/

namespace Cert.Equal

open Cert.KernelIdeal Cert.KernelIdeal.Gen Cert.KernelIdeal.Value Cert.Layer Idealize.ShloMosaic Idealize.SL.Sem Idealize.ShloMosaic.TcCoe

variable (m : (ℓ : Loc nD τ sig) → Buf (Elt Ideal) ℓ) (c : Dev nD)

/-- The kernel's result array is the reference's result, where the precondition holds. -/
theorem result (h : Cert.Pre_KernelIdeal_finite_weights m) : G13 (F := Ideal) m c
    = Cert.ReferenceIdeal.Read.val_main_v419 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) := by
  have hf := fin_of_pre (h c)
  have hA := arr (x0 := m ((c : Thread nD τ).loc main_arg0)) (x1 := m ((c : Thread nD τ).loc main_arg1)) (x2 := m ((c : Thread nD τ).loc main_arg2))
    (x3 := m ((c : Thread nD τ).loc main_arg3)) (x4 := m ((c : Thread nD τ).loc main_arg4)) (x5 := m ((c : Thread nD τ).loc main_arg5)) (x6 := m ((c : Thread nD τ).loc main_arg6))
    (x7 := m ((c : Thread nD τ).loc main_arg7)) (x8 := m ((c : Thread nD τ).loc main_arg8)) (x9 := m ((c : Thread nD τ).loc main_arg9)) (x10 := m ((c : Thread nD τ).loc main_arg10))
    (G := Cert.ReferenceIdeal.Read.val_main_v109 (F := Ideal) (m ((c : Thread nD τ).loc main_arg11)))
  have hT := Cert.KV.tiles_of (m := m) (c := c) (by rw [Cert.KV.W_v80]; exact hA)
  funext i
  rw [Cert.KV.result m c hT i, outK_eq hf]
  refine (Cert.RV.result hA (i 0) (i 1) (i 2)).symm.trans ?_
  rw [← eq_ix3 i]

end Cert.Equal
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : algebraic_KernelIdeal_ReferenceIdeal_pre_finite_weights := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine Eq.trans ?_ (Cert.Equal.result m c hpre).symm
  obtain ⟨h0, h1, h2, h3, h4, h5, h6, h7, h8, h9, h10, h11⟩ := hagree c
  refine (Cert.ReferenceIdeal.Read.val_main_v419_eq (F := Ideal) (StableHlo.launchContents m' c)).trans ?_
  rw [← h0, ← h1, ← h2, ← h3, ← h4, ← h5, ← h6, ← h7, ← h8, ← h9, ← h10, ← h11]

theorem claim : Cert.Claim := ⟨Cert.Kernel.Gen.facts, Cert.KernelIdeal.Gen.facts, Cert.ReferenceIdeal.Gen.facts, Cert.Layer.preFacts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial, (trivial : preserves_Kernel_KernelIdeal), algebraic⟩

end Cert.Proof

end
